-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x3AAAAAAB#32 ((1 / 768 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S112x1024x768 : Shape := ⟨3, ![112, 1024, 768]⟩
abbrev S112x1024 : Shape := ⟨2, ![112, 1024]⟩
abbrev S112x768x1024 : Shape := ⟨3, ![112, 768, 1024]⟩
abbrev S112x768x8 : Shape := ⟨3, ![112, 768, 8]⟩
abbrev S112x768 : Shape := ⟨2, ![112, 768]⟩
abbrev S_ : Shape := ⟨0, ![]⟩

class Facts : Prop where
  bcast_S_S112x1024x768 : S_.BroadcastsInDim S112x1024x768 (![] : Fin 0 → Fin S112x1024x768.rank)
  bcast_S_S112x1024 : S_.BroadcastsInDim S112x1024 (![] : Fin 0 → Fin S112x1024.rank)
  bcast_S_S112x768x1024 : S_.BroadcastsInDim S112x768x1024 (![] : Fin 0 → Fin S112x768x1024.rank)
  bcast_S_S112x768x8 : S_.BroadcastsInDim S112x768x8 (![] : Fin 0 → Fin S112x768x8.rank)
  bcast_S_S112x768 : S_.BroadcastsInDim S112x768 (![] : Fin 0 → Fin S112x768.rank)

variable [Facts]

def fn_part2 {F : FTy → Type} [FloatOps F] (main_v4 : IVec S112x1024x768 1) (main_v7 : IVec S112x1024 1) (main_v10 : IVec S112x1024x768 1) (main_v18 : IVec S112x768x1024 1) (main_v21 : IVec S112x768x8 1) (main_v29 : IVec S112x768x1024 1) (main_v32 : IVec S112x768x8 1) (main_v33 : FVec F S112x768 .f32) (main_v34 : FVec F S112x768 .f32) : IVec S112x1024x768 1 × IVec S112x1024 1 × IVec S112x1024x768 1 × IVec S112x768x1024 1 × IVec S112x768x8 1 × IVec S112x768x1024 1 × IVec S112x768x8 1 × IVec S112x768 1 :=
  let main_v35 : IVec S112x768 1 := cmpf .oeq main_v33 main_v34
  (main_v4, main_v7, main_v10, main_v18, main_v21, main_v29, main_v32, main_v35)

def fn_part1 {F : FTy → Type} [FloatOps F] (main_arg4 : FVec F S112x768x8 .f32) (main_arg5 : IVec S112x768x1024 8) (main_arg6 : FVec F S112x768x8 .f32) (main_arg7 : FVec F S112x768 .f32) (main_v4 : IVec S112x1024x768 1) (main_v7 : IVec S112x1024 1) (main_v10 : IVec S112x1024x768 1) (main_v12 : IVec S112x768x1024 1) (main_v14 : IVec S112x768x1024 1) (main_v16 : IVec S112x768x1024 1) : IVec S112x1024x768 1 × IVec S112x1024 1 × IVec S112x1024x768 1 × IVec S112x768x1024 1 × IVec S112x768x8 1 × IVec S112x768x1024 1 × IVec S112x768x8 1 × IVec S112x768 1 :=
  let main_v17 : IVec S112x768x1024 1 := andi main_v14 main_v16
  let main_v18 : IVec S112x768x1024 1 := ori main_v12 main_v17
  let main_v19 : FVec F S112x768x8 .f32 := subf main_arg4 main_arg4
  let main_cst_5 : FVec F S_ .f32 := constant S_ .f32 0x00000000#32
  let main_v20 : FVec F S112x768x8 .f32 := broadcastInDim S112x768x8 ![] bcast_S_S112x768x8 main_cst_5
  let main_v21 : IVec S112x768x8 1 := cmpf .oeq main_v19 main_v20
  let main_c_6 : IVec S_ 8 := constantI S_ 8 124#8
  let main_v22 : IVec S112x768x1024 8 := broadcastInDim S112x768x1024 ![] bcast_S_S112x768x1024 main_c_6
  let main_v23 : IVec S112x768x1024 1 := cmpi .ult main_arg5 main_v22
  let main_c_7 : IVec S_ 8 := constantI S_ 8 128#8
  let main_v24 : IVec S112x768x1024 8 := broadcastInDim S112x768x1024 ![] bcast_S_S112x768x1024 main_c_7
  let main_v25 : IVec S112x768x1024 1 := cmpi .uge main_arg5 main_v24
  let main_c_8 : IVec S_ 8 := constantI S_ 8 252#8
  let main_v26 : IVec S112x768x1024 8 := broadcastInDim S112x768x1024 ![] bcast_S_S112x768x1024 main_c_8
  let main_v27 : IVec S112x768x1024 1 := cmpi .ult main_arg5 main_v26
  let main_v28 : IVec S112x768x1024 1 := andi main_v25 main_v27
  let main_v29 : IVec S112x768x1024 1 := ori main_v23 main_v28
  let main_v30 : FVec F S112x768x8 .f32 := subf main_arg6 main_arg6
  let main_cst_9 : FVec F S_ .f32 := constant S_ .f32 0x00000000#32
  let main_v31 : FVec F S112x768x8 .f32 := broadcastInDim S112x768x8 ![] bcast_S_S112x768x8 main_cst_9
  let main_v32 : IVec S112x768x8 1 := cmpf .oeq main_v30 main_v31
  let main_v33 : FVec F S112x768 .f32 := subf main_arg7 main_arg7
  let main_cst_10 : FVec F S_ .f32 := constant S_ .f32 0x00000000#32
  let main_v34 : FVec F S112x768 .f32 := broadcastInDim S112x768 ![] bcast_S_S112x768 main_cst_10
  fn_part2 (F := F) main_v4 main_v7 main_v10 main_v18 main_v21 main_v29 main_v32 main_v33 main_v34

def fn {F : FTy → Type} [FloatOps F] (main_arg0 : IVec S112x1024x768 8) (main_arg1 : FVec F S112x1024 .f32) (main_arg2 : FVec F S112x1024x768 .bf16) (main_arg3 : IVec S112x768x1024 8) (main_arg4 : FVec F S112x768x8 .f32) (main_arg5 : IVec S112x768x1024 8) (main_arg6 : FVec F S112x768x8 .f32) (main_arg7 : FVec F S112x768 .f32) : IVec S112x1024x768 1 × IVec S112x1024 1 × IVec S112x1024x768 1 × IVec S112x768x1024 1 × IVec S112x768x8 1 × IVec S112x768x1024 1 × IVec S112x768x8 1 × IVec S112x768 1 :=
  let main_c : IVec S_ 8 := constantI S_ 8 127#8
  let main_v0 : IVec S112x1024x768 8 := broadcastInDim S112x1024x768 ![] bcast_S_S112x1024x768 main_c
  let main_v1 : IVec S112x1024x768 1 := cmpi .ne main_arg0 main_v0
  let main_c_0 : IVec S_ 8 := constantI S_ 8 255#8
  let main_v2 : IVec S112x1024x768 8 := broadcastInDim S112x1024x768 ![] bcast_S_S112x1024x768 main_c_0
  let main_v3 : IVec S112x1024x768 1 := cmpi .ne main_arg0 main_v2
  let main_v4 : IVec S112x1024x768 1 := andi main_v1 main_v3
  let main_v5 : FVec F S112x1024 .f32 := subf main_arg1 main_arg1
  let main_cst : FVec F S_ .f32 := constant S_ .f32 0x00000000#32
  let main_v6 : FVec F S112x1024 .f32 := broadcastInDim S112x1024 ![] bcast_S_S112x1024 main_cst
  let main_v7 : IVec S112x1024 1 := cmpf .oeq main_v5 main_v6
  let main_v8 : FVec F S112x1024x768 .bf16 := subf main_arg2 main_arg2
  let main_cst_1 : FVec F S_ .bf16 := constant S_ .bf16 0x0000#16
  let main_v9 : FVec F S112x1024x768 .bf16 := broadcastInDim S112x1024x768 ![] bcast_S_S112x1024x768 main_cst_1
  let main_v10 : IVec S112x1024x768 1 := cmpf .oeq main_v8 main_v9
  let main_c_2 : IVec S_ 8 := constantI S_ 8 124#8
  let main_v11 : IVec S112x768x1024 8 := broadcastInDim S112x768x1024 ![] bcast_S_S112x768x1024 main_c_2
  let main_v12 : IVec S112x768x1024 1 := cmpi .ult main_arg3 main_v11
  let main_c_3 : IVec S_ 8 := constantI S_ 8 128#8
  let main_v13 : IVec S112x768x1024 8 := broadcastInDim S112x768x1024 ![] bcast_S_S112x768x1024 main_c_3
  let main_v14 : IVec S112x768x1024 1 := cmpi .uge main_arg3 main_v13
  let main_c_4 : IVec S_ 8 := constantI S_ 8 252#8
  let main_v15 : IVec S112x768x1024 8 := broadcastInDim S112x768x1024 ![] bcast_S_S112x768x1024 main_c_4
  let main_v16 : IVec S112x768x1024 1 := cmpi .ult main_arg3 main_v15
  fn_part1 (F := F) main_arg4 main_arg5 main_arg6 main_arg7 main_v4 main_v7 main_v10 main_v12 main_v14 main_v16
-- ==== Kernel.lean ====
abbrev S112x1024x768 : Shape := ⟨3, ![112, 1024, 768]⟩
abbrev S112x1024 : Shape := ⟨2, ![112, 1024]⟩
abbrev S112x768x1024 : Shape := ⟨3, ![112, 768, 1024]⟩
abbrev S112x768x8 : Shape := ⟨3, ![112, 768, 8]⟩
abbrev S112x768 : Shape := ⟨2, ![112, 768]⟩
abbrev S112x8x768 : Shape := ⟨3, ![112, 8, 768]⟩
abbrev S3x112x768 : Shape := ⟨3, ![3, 112, 768]⟩
abbrev S112x3x8x768 : Shape := ⟨4, ![112, 3, 8, 768]⟩
abbrev S1x1024x768 : Shape := ⟨3, ![1, 1024, 768]⟩
abbrev S8x1024 : Shape := ⟨2, ![8, 1024]⟩
abbrev S1x768x1024 : Shape := ⟨3, ![1, 768, 1024]⟩
abbrev S1x8x768 : Shape := ⟨3, ![1, 8, 768]⟩
abbrev S8x768 : Shape := ⟨2, ![8, 768]⟩
abbrev S3x8x768 : Shape := ⟨3, ![3, 8, 768]⟩
abbrev S1x3x8x768 : Shape := ⟨4, ![1, 3, 8, 768]⟩
abbrev S1024x768 : Shape := ⟨2, ![1024, 768]⟩
abbrev S8x128 : Shape := ⟨2, ![8, 128]⟩
abbrev S1024 : Shape := ⟨1, ![1024]⟩
abbrev S1x1024 : Shape := ⟨2, ![1, 1024]⟩
abbrev S768 : Shape := ⟨1, ![768]⟩
abbrev S1x768 : Shape := ⟨2, ![1, 768]⟩
abbrev S32x768 : Shape := ⟨2, ![32, 768]⟩
abbrev S256x256 : Shape := ⟨2, ![256, 256]⟩
abbrev S1x256x256 : Shape := ⟨3, ![1, 256, 256]⟩
abbrev S16x768 : Shape := ⟨2, ![16, 768]⟩
abbrev S16x1024 : Shape := ⟨2, ![16, 1024]⟩
abbrev S768x1024 : Shape := ⟨2, ![768, 1024]⟩
abbrev S32x1024 : Shape := ⟨2, ![32, 1024]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1x1x8x768 : Shape := ⟨4, ![1, 1, 8, 768]⟩
abbrev S1x1x128 : Shape := ⟨3, ![1, 1, 128]⟩
abbrev S16x128 : Shape := ⟨2, ![16, 128]⟩
abbrev S1x16x128 : Shape := ⟨3, ![1, 16, 128]⟩
abbrev S1x1x1x128 : Shape := ⟨4, ![1, 1, 1, 128]⟩

abbrev nBuf : Space → Nat
  | .hbm => 16
  | .vmem => 25
  | .smem => 0
  | _ => 0

abbrev bufTy : (tb : Table) → Fin (tcTables nBuf tb) → BufTy
  | .hbm, ⟨0, _⟩ => ⟨S112x1024x768, .i8⟩
  | .hbm, ⟨1, _⟩ => ⟨S112x1024, .f32⟩
  | .hbm, ⟨2, _⟩ => ⟨S112x1024x768, .bf16⟩
  | .hbm, ⟨3, _⟩ => ⟨S112x768x1024, .i8⟩
  | .hbm, ⟨4, _⟩ => ⟨S112x768x8, .f32⟩
  | .hbm, ⟨5, _⟩ => ⟨S112x768x1024, .i8⟩
  | .hbm, ⟨6, _⟩ => ⟨S112x768x8, .f32⟩
  | .hbm, ⟨7, _⟩ => ⟨S112x768, .f32⟩
  | .hbm, ⟨8, _⟩ => ⟨S112x1024x768, .fp8e4m3⟩
  | .hbm, ⟨9, _⟩ => ⟨S112x768x1024, .fp8e5m2⟩
  | .hbm, ⟨10, _⟩ => ⟨S112x768x1024, .fp8e5m2⟩
  | .hbm, ⟨11, _⟩ => ⟨S112x8x768, .f32⟩
  | .hbm, ⟨12, _⟩ => ⟨S112x8x768, .f32⟩
  | .hbm, ⟨13, _⟩ => ⟨S112x1024x768, .bf16⟩
  | .hbm, ⟨14, _⟩ => ⟨S3x112x768, .f32⟩
  | .hbm, ⟨15, _⟩ => ⟨S112x3x8x768, .f32⟩
  | .local _ .vmem, ⟨0, _⟩ => ⟨S1x1024x768, .fp8e4m3⟩
  | .local _ .vmem, ⟨1, _⟩ => ⟨S1x1024x768, .fp8e4m3⟩
  | .local _ .vmem, ⟨2, _⟩ => ⟨S8x1024, .f32⟩
  | .local _ .vmem, ⟨3, _⟩ => ⟨S8x1024, .f32⟩
  | .local _ .vmem, ⟨4, _⟩ => ⟨S1x1024x768, .bf16⟩
  | .local _ .vmem, ⟨5, _⟩ => ⟨S1x1024x768, .bf16⟩
  | .local _ .vmem, ⟨6, _⟩ => ⟨S1x768x1024, .fp8e5m2⟩
  | .local _ .vmem, ⟨7, _⟩ => ⟨S1x768x1024, .fp8e5m2⟩
  | .local _ .vmem, ⟨8, _⟩ => ⟨S1x8x768, .f32⟩
  | .local _ .vmem, ⟨9, _⟩ => ⟨S1x8x768, .f32⟩
  | .local _ .vmem, ⟨10, _⟩ => ⟨S1x768x1024, .fp8e5m2⟩
  | .local _ .vmem, ⟨11, _⟩ => ⟨S1x768x1024, .fp8e5m2⟩
  | .local _ .vmem, ⟨12, _⟩ => ⟨S1x8x768, .f32⟩
  | .local _ .vmem, ⟨13, _⟩ => ⟨S1x8x768, .f32⟩
  | .local _ .vmem, ⟨14, _⟩ => ⟨S8x768, .f32⟩
  | .local _ .vmem, ⟨15, _⟩ => ⟨S8x768, .f32⟩
  | .local _ .vmem, ⟨16, _⟩ => ⟨S1x1024x768, .bf16⟩
  | .local _ .vmem, ⟨17, _⟩ => ⟨S1x1024x768, .bf16⟩
  | .local _ .vmem, ⟨18, _⟩ => ⟨S3x8x768, .f32⟩
  | .local _ .vmem, ⟨19, _⟩ => ⟨S3x8x768, .f32⟩
  | .local _ .vmem, ⟨20, _⟩ => ⟨S1x3x8x768, .f32⟩
  | .local _ .vmem, ⟨21, _⟩ => ⟨S1x3x8x768, .f32⟩
  | .local _ .vmem, ⟨22, _⟩ => ⟨S1024x768, .f32⟩
  | .local _ .vmem, ⟨23, _⟩ => ⟨S1024x768, .bf16⟩
  | .local _ .vmem, ⟨24, _⟩ => ⟨S1024x768, .bf16⟩
  | _, _ => ⟨S112x1024x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![112], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x1024 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768x1024 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x8x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x8x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_d" => some ((1 / 768 : ℝ) : EReal)
  | _ => none
-- ==== ReferenceIdeal.lean ====
abbrev S112x1024x768 : Shape := ⟨3, ![112, 1024, 768]⟩
abbrev S112x1024 : Shape := ⟨2, ![112, 1024]⟩
abbrev S112x768x1024 : Shape := ⟨3, ![112, 768, 1024]⟩
abbrev S112x768x8 : Shape := ⟨3, ![112, 768, 8]⟩
abbrev S112x768 : Shape := ⟨2, ![112, 768]⟩
abbrev S3x112x768 : Shape := ⟨3, ![3, 112, 768]⟩
abbrev S112x3x8x768 : Shape := ⟨4, ![112, 3, 8, 768]⟩
abbrev S112x1x1024 : Shape := ⟨3, ![112, 1, 1024]⟩
abbrev S112x768x8x128 : Shape := ⟨4, ![112, 768, 8, 128]⟩
abbrev S112x768x8x1 : Shape := ⟨4, ![112, 768, 8, 1]⟩
abbrev S112x8x768 : Shape := ⟨3, ![112, 8, 768]⟩
abbrev S112x1x8x768 : Shape := ⟨4, ![112, 1, 8, 768]⟩
abbrev S1x112x768 : Shape := ⟨3, ![1, 112, 768]⟩
abbrev S112x768x1 : Shape := ⟨3, ![112, 768, 1]⟩

abbrev nBuf : Space → Nat
  | .hbm => 14
  | .vmem => 11
  | .smem => 0
  | _ => 0

abbrev bufTy : (tb : Table) → Fin (tcTables nBuf tb) → BufTy
  | .hbm, ⟨0, _⟩ => ⟨S112x1024x768, .i8⟩
  | .hbm, ⟨1, _⟩ => ⟨S112x1024, .f32⟩
  | .hbm, ⟨2, _⟩ => ⟨S112x1024x768, .bf16⟩
  | .hbm, ⟨3, _⟩ => ⟨S112x768x1024, .i8⟩
  | .hbm, ⟨4, _⟩ => ⟨S112x768x8, .f32⟩
  | .hbm, ⟨5, _⟩ => ⟨S112x768x1024, .i8⟩
  | .hbm, ⟨6, _⟩ => ⟨S112x768x8, .f32⟩
  | .hbm, ⟨7, _⟩ => ⟨S112x768, .f32⟩
  | .hbm, ⟨8, _⟩ => ⟨S112x1024x768, .fp8e4m3⟩
  | .hbm, ⟨9, _⟩ => ⟨S112x768x1024, .fp8e5m2⟩
  | .hbm, ⟨10, _⟩ => ⟨S112x768x1024, .fp8e5m2⟩
  | .hbm, ⟨11, _⟩ => ⟨S112x1024x768, .bf16⟩
  | .hbm, ⟨12, _⟩ => ⟨S3x112x768, .f32⟩
  | .hbm, ⟨13, _⟩ => ⟨S112x3x8x768, .f32⟩
  | .local _ .vmem, ⟨0, _⟩ => ⟨S112x1024x768, .fp8e4m3⟩
  | .local _ .vmem, ⟨1, _⟩ => ⟨S112x1024, .f32⟩
  | .local _ .vmem, ⟨2, _⟩ => ⟨S112x1024x768, .bf16⟩
  | .local _ .vmem, ⟨3, _⟩ => ⟨S112x768x1024, .fp8e5m2⟩
  | .local _ .vmem, ⟨4, _⟩ => ⟨S112x768x8, .f32⟩
  | .local _ .vmem, ⟨5, _⟩ => ⟨S112x768x1024, .fp8e5m2⟩
  | .local _ .vmem, ⟨6, _⟩ => ⟨S112x768x8, .f32⟩
  | .local _ .vmem, ⟨7, _⟩ => ⟨S112x768, .f32⟩
  | .local _ .vmem, ⟨8, _⟩ => ⟨S112x1024x768, .bf16⟩
  | .local _ .vmem, ⟨9, _⟩ => ⟨S3x112x768, .f32⟩
  | .local _ .vmem, ⟨10, _⟩ => ⟨S112x3x8x768, .f32⟩
  | _, _ => ⟨S112x1024x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S112x1024x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x768x1024 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x768x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S112x768x1024 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S112x768x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S112x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S112x1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x112x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S112x3x8x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelKit.lean ====
/- The kernel as written: its staging and scratch buffers by name, and the frame's statement from any run of the pipeline. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x1024x768 .fp8e4m3 := win0_0.stage (cfg0.slots t 0)
/-- Window 0's staging buffer is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S8x1024 .f32 := win0_1.stage (cfg0.slots t 1)
/-- Window 1's staging buffer is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S1x1024x768 .bf16 := win0_2.stage (cfg0.slots t 2)
/-- Window 2's staging buffer is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S1x768x1024 .fp8e5m2 := win0_3.stage (cfg0.slots t 3)
/-- Window 3's staging buffer is a whole buffer. -/
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S1x8x768 .f32 := win0_4.stage (cfg0.slots t 4)
/-- Window 4's staging buffer is a whole buffer. -/
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S1x768x1024 .fp8e5m2 := win0_5.stage (cfg0.slots t 5)
/-- Window 5's staging buffer is a whole buffer. -/
abbrev hs0_5 (t : Fin cfg0.N) : (ms0_5 t).IsWhole := hstage0_5 ((cfg0.slots t 5).cast nbuf0_5)
/-- Window 6's staging buffer at point `t`. -/
abbrev ms0_6 (t : Fin cfg0.N) : Memref sig .tc .vmem S1x8x768 .f32 := win0_6.stage (cfg0.slots t 6)
/-- Window 6's staging buffer is a whole buffer. -/
abbrev hs0_6 (t : Fin cfg0.N) : (ms0_6 t).IsWhole := hstage0_6 ((cfg0.slots t 6).cast nbuf0_6)
/-- Window 7's staging buffer at point `t`. -/
abbrev ms0_7 (t : Fin cfg0.N) : Memref sig .tc .vmem S8x768 .f32 := win0_7.stage (cfg0.slots t 7)
/-- Window 7's staging buffer is a whole buffer. -/
abbrev hs0_7 (t : Fin cfg0.N) : (ms0_7 t).IsWhole := hstage0_7 ((cfg0.slots t 7).cast nbuf0_7)
/-- Window 8's staging buffer at point `t`. -/
abbrev ms0_8 (t : Fin cfg0.N) : Memref sig .tc .vmem S1x1024x768 .bf16 := win0_8.stage (cfg0.slots t 8)
/-- Window 8's staging buffer is a whole buffer. -/
abbrev hs0_8 (t : Fin cfg0.N) : (ms0_8 t).IsWhole := hstage0_8 ((cfg0.slots t 8).cast nbuf0_8)
/-- Window 9's staging buffer at point `t`. -/
abbrev ms0_9 (t : Fin cfg0.N) : Memref sig .tc .vmem S3x8x768 .f32 := win0_9.stage (cfg0.slots t 9)
/-- Window 9's staging buffer is a whole buffer. -/
abbrev hs0_9 (t : Fin cfg0.N) : (ms0_9 t).IsWhole := hstage0_9 ((cfg0.slots t 9).cast nbuf0_9)
/-- Window 10's staging buffer at point `t`. -/
abbrev ms0_10 (t : Fin cfg0.N) : Memref sig .tc .vmem S1x3x8x768 .f32 := win0_10.stage (cfg0.slots t 10)
/-- Window 10's staging buffer is a whole buffer. -/
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x768 .f32 := Memref.whole cc0_scratch0
/-- The second scratch buffer, whole. -/
abbrev scM0_1 : Memref sig .tc .vmem S1024x768 .bf16 := Memref.whole cc0_scratch1
/-- The third scratch buffer, whole. -/
abbrev scM0_2 : Memref sig .tc .vmem S1024x768 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KernelRun.lean ====
/- One run of the body of the kernel as written: it reads its blocks and hands every buffer back, nothing said of what it stores. -/
module

public import proofs.«01_k».proof.Proof.KernelKit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 13668000 in
/-- The body's triple: on whole staging memrefs — the inputs' at their contents,
    the FORGOTTEN outputs' (8, 9, 10) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1x1024x768 .fp8e4m3) (harg1 : arg1.IsWhole) (arg2 : Memref sig .tc .vmem S8x1024 .f32) (harg2 : arg2.IsWhole) (arg3 : Memref sig .tc .vmem S1x1024x768 .bf16) (harg3 : arg3.IsWhole) (arg4 : Memref sig .tc .vmem S1x768x1024 .fp8e5m2) (harg4 : arg4.IsWhole) (arg5 : Memref sig .tc .vmem S1x8x768 .f32) (harg5 : arg5.IsWhole) (arg6 : Memref sig .tc .vmem S1x768x1024 .fp8e5m2) (harg6 : arg6.IsWhole) (arg7 : Memref sig .tc .vmem S1x8x768 .f32) (harg7 : arg7.IsWhole) (arg8 : Memref sig .tc .vmem S8x768 .f32) (harg8 : arg8.IsWhole) (arg9 : Memref sig .tc .vmem S1x1024x768 .bf16) (harg9 : arg9.IsWhole) (arg10 : Memref sig .tc .vmem S3x8x768 .f32) (harg10 : arg10.IsWhole) (arg11 : Memref sig .tc .vmem S1x3x8x768 .f32) (harg11 : arg11.IsWhole) (arg12 : Memref sig .tc .vmem S1024x768 .f32) (harg12 : arg12.IsWhole) (arg13 : Memref sig .tc .vmem S1024x768 .bf16) (harg13 : arg13.IsWhole) (arg14 : Memref sig .tc .vmem S1024x768 .bf16) (harg14 : arg14.IsWhole)
    (x0 : Vec F S1x1024x768 .fp8e4m3) (x1 : Vec F S8x1024 .f32) (x2 : Vec F S1x1024x768 .bf16) (x3 : Vec F S1x768x1024 .fp8e5m2) (x4 : Vec F S1x8x768 .f32) (x5 : Vec F S1x768x1024 .fp8e5m2) (x6 : Vec F S1x8x768 .f32) (x7 : Vec F S8x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0__body_eq_skeleton]; unfold cc0__body_skel
    simp only [k0_part309_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part310_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part311_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part312_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part313_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KernelFrame.lean ====
/- The frame of the kernel as written: every execution terminates, leaves the arguments as they were and every semaphore at zero. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1's buffer holds before the body: its block. -/
theorem before0_1 (c : Dev nD) (t : Fin cfg0.N) (d) : (dats m 0 c).before 1 t d = iblk m c 1 t :=
  before0_1_of m (dats m 0 c) (A_eq m c 1) (after0_1 m c) t d
/-- What window 2's buffer holds before the body: its block. -/
theorem before0_2 (c : Dev nD) (t : Fin cfg0.N) (d) : (dats m 0 c).before 2 t d = iblk m c 2 t :=
  before0_2_of m (dats m 0 c) (A_eq m c 2) (after0_2 m c) t d
/-- What window 3's buffer holds before the body: its block. -/
theorem before0_3 (c : Dev nD) (t : Fin cfg0.N) (d) : (dats m 0 c).before 3 t d = iblk m c 3 t :=
  before0_3_of m (dats m 0 c) (A_eq m c 3) (after0_3 m c) t d
/-- What window 4's buffer holds before the body: its block. -/
theorem before0_4 (c : Dev nD) (t : Fin cfg0.N) (d) : (dats m 0 c).before 4 t d = iblk m c 4 t :=
  before0_4_of m (dats m 0 c) (A_eq m c 4) (after0_4 m c) t d
/-- What window 5's buffer holds before the body: its block. -/
theorem before0_5 (c : Dev nD) (t : Fin cfg0.N) (d) : (dats m 0 c).before 5 t d = iblk m c 5 t :=
  before0_5_of m (dats m 0 c) (A_eq m c 5) (after0_5 m c) t d
/-- What window 6's buffer holds before the body: its block. -/
theorem before0_6 (c : Dev nD) (t : Fin cfg0.N) (d) : (dats m 0 c).before 6 t d = iblk m c 6 t :=
  before0_6_of m (dats m 0 c) (A_eq m c 6) (after0_6 m c) t d
/-- What window 7's buffer holds before the body: its block. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_rel m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.Kit.lean ====
/- The kernel's staging buffers and scratch buffers, by name: what each window's current staging buffer is at a grid point, that it is
   whole, and the invariant of the frame with the three scratch buffers spelled out. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The kernel body on any staging memrefs: a subtype the run finds -/

/-- One staging buffer of output window 8, through which its contents are stated (`View.read_writes_of_cover`: the
    choice does not matter). -/
abbrev VO0_8 : View sig .tc .vmem S1x1024x768 .bf16 := (Memref.whole cc0_stg8_0 : Memref sig .tc .vmem S1x1024x768 .bf16).view
/-- One staging buffer of output window 9, through which its contents are stated (`View.read_writes_of_cover`: the
    choice does not matter). -/
abbrev VO0_9 : View sig .tc .vmem S3x8x768 .f32 := (Memref.whole cc0_stg9_0 : Memref sig .tc .vmem S3x8x768 .f32).view
/-- One staging buffer of output window 10, through which its contents are stated (`View.read_writes_of_cover`: the
    choice does not matter). -/
abbrev VO0_10 : View sig .tc .vmem S1x3x8x768 .f32 := (Memref.whole cc0_stg10_0 : Memref sig .tc .vmem S1x3x8x768 .f32).view
/-- Each window's current staging memref at point `t`, spelled as the pipeline passes it (`bodyAt0`), and its wholeness. -/
abbrev ms0_0 (t : Fin cfg0.N) : Memref sig .tc .vmem S1x1024x768 .fp8e4m3 := win0_0.stage (cfg0.slots t 0)
/-- Window 0's staging buffer is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S8x1024 .f32 := win0_1.stage (cfg0.slots t 1)
/-- Window 1's staging buffer is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S1x1024x768 .bf16 := win0_2.stage (cfg0.slots t 2)
/-- Window 2's staging buffer is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S1x768x1024 .fp8e5m2 := win0_3.stage (cfg0.slots t 3)
/-- Window 3's staging buffer is a whole buffer. -/
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S1x8x768 .f32 := win0_4.stage (cfg0.slots t 4)
/-- Window 4's staging buffer is a whole buffer. -/
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S1x768x1024 .fp8e5m2 := win0_5.stage (cfg0.slots t 5)
/-- Window 5's staging buffer is a whole buffer. -/
abbrev hs0_5 (t : Fin cfg0.N) : (ms0_5 t).IsWhole := hstage0_5 ((cfg0.slots t 5).cast nbuf0_5)
/-- Window 6's staging buffer at point `t`. -/
abbrev ms0_6 (t : Fin cfg0.N) : Memref sig .tc .vmem S1x8x768 .f32 := win0_6.stage (cfg0.slots t 6)
/-- Window 6's staging buffer is a whole buffer. -/
abbrev hs0_6 (t : Fin cfg0.N) : (ms0_6 t).IsWhole := hstage0_6 ((cfg0.slots t 6).cast nbuf0_6)
/-- Window 7's staging buffer at point `t`. -/
abbrev ms0_7 (t : Fin cfg0.N) : Memref sig .tc .vmem S8x768 .f32 := win0_7.stage (cfg0.slots t 7)
/-- Window 7's staging buffer is a whole buffer. -/
abbrev hs0_7 (t : Fin cfg0.N) : (ms0_7 t).IsWhole := hstage0_7 ((cfg0.slots t 7).cast nbuf0_7)
/-- Window 8's staging buffer at point `t`. -/
abbrev ms0_8 (t : Fin cfg0.N) : Memref sig .tc .vmem S1x1024x768 .bf16 := win0_8.stage (cfg0.slots t 8)
/-- Window 8's staging buffer is a whole buffer. -/
abbrev hs0_8 (t : Fin cfg0.N) : (ms0_8 t).IsWhole := hstage0_8 ((cfg0.slots t 8).cast nbuf0_8)
/-- Window 9's staging buffer at point `t`. -/
abbrev ms0_9 (t : Fin cfg0.N) : Memref sig .tc .vmem S3x8x768 .f32 := win0_9.stage (cfg0.slots t 9)
/-- Window 9's staging buffer is a whole buffer. -/
abbrev hs0_9 (t : Fin cfg0.N) : (ms0_9 t).IsWhole := hstage0_9 ((cfg0.slots t 9).cast nbuf0_9)
/-- Window 10's staging buffer at point `t`. -/
abbrev ms0_10 (t : Fin cfg0.N) : Memref sig .tc .vmem S1x3x8x768 .f32 := win0_10.stage (cfg0.slots t 10)
/-- Window 10's staging buffer is a whole buffer. -/
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x768 .f32 := Memref.whole cc0_scratch0
/-- The second scratch buffer, whole. -/
abbrev scM0_1 : Memref sig .tc .vmem S1024x768 .bf16 := Memref.whole cc0_scratch1
/-- The third scratch buffer, whole. -/
abbrev scM0_2 : Memref sig .tc .vmem S1024x768 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Run.lean ====
/- One run of the kernel's body: what it leaves in each buffer, found by executing it. -/
module

public import proofs.«01_k».proof.Proof.Kit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the run's proof term is large: the checks after the definition walk it past the default budget
set_option maxHeartbeats 13668000 in
/-- The kernel's body, run once on whole staging buffers. The inputs hold `x0 … x7`, the third output (the block of per-sample sums) holds
    `d9`, the other two outputs and the scratch buffers hold anything. Afterwards the inputs are as they were; the first output and the
    block sums hold the pieces `L8` and `L10` written over what was there, the scratch buffers the pieces `LT0`, `LT1`, `LT2`; and the
    third output holds `W9 d9`: its masked stores change one row in eight and keep the others of `d9`. -/
noncomputable def bodyRun (c : Dev nD) (i : grid0.Coords) (arg1 : Memref sig .tc .vmem S1x1024x768 .fp8e4m3) (harg1 : arg1.IsWhole) (arg2 : Memref sig .tc .vmem S8x1024 .f32) (harg2 : arg2.IsWhole) (arg3 : Memref sig .tc .vmem S1x1024x768 .bf16) (harg3 : arg3.IsWhole) (arg4 : Memref sig .tc .vmem S1x768x1024 .fp8e5m2) (harg4 : arg4.IsWhole) (arg5 : Memref sig .tc .vmem S1x8x768 .f32) (harg5 : arg5.IsWhole) (arg6 : Memref sig .tc .vmem S1x768x1024 .fp8e5m2) (harg6 : arg6.IsWhole) (arg7 : Memref sig .tc .vmem S1x8x768 .f32) (harg7 : arg7.IsWhole) (arg8 : Memref sig .tc .vmem S8x768 .f32) (harg8 : arg8.IsWhole) (arg9 : Memref sig .tc .vmem S1x1024x768 .bf16) (harg9 : arg9.IsWhole) (arg10 : Memref sig .tc .vmem S3x8x768 .f32) (harg10 : arg10.IsWhole) (arg11 : Memref sig .tc .vmem S1x3x8x768 .f32) (harg11 : arg11.IsWhole) (arg12 : Memref sig .tc .vmem S1024x768 .f32) (harg12 : arg12.IsWhole) (arg13 : Memref sig .tc .vmem S1024x768 .bf16) (harg13 : arg13.IsWhole) (arg14 : Memref sig .tc .vmem S1024x768 .bf16) (harg14 : arg14.IsWhole)
    (x0 : Vec F S1x1024x768 .fp8e4m3) (x1 : Vec F S8x1024 .f32) (x2 : Vec F S1x1024x768 .bf16) (x3 : Vec F S1x768x1024 .fp8e5m2) (x4 : Vec F S1x8x768 .f32) (x5 : Vec F S1x768x1024 .fp8e5m2) (x6 : Vec F S1x8x768 .f32) (x7 : Vec F S8x768 .f32) :
    Σ' (L8 : List (View.Piece (Elt F) S1x1024x768 .bf16)), Σ' (W9 : Vec F S3x8x768 .f32 → Vec F S3x8x768 .f32), Σ' (L10 : List (View.Piece (Elt F) S1x3x8x768 .f32)), Σ' (LT0 : List (View.Piece (Elt F) S1024x768 .f32)), Σ' (LT1 : List (View.Piece (Elt F) S1024x768 .bf16)), { LT2 : List (View.Piece (Elt F) S1024x768 .bf16) //
      ∀ (d9 : Vec F S3x8x768 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare d9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare (W9 d9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun d9 E K => ?run⟩
  case run =>
    simp only [cc0__body_eq_skeleton]; unfold cc0__body_skel
    simp only [k0_part309_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part310_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part311_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part312_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part313_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; swap; · iexact H9
      ipureintro; rfl
    isplitl [H10]; · iexists _; iexact H10
    isplitl [HS0]; · iexists _; iexact HS0
    isplitl [HS1]; · iexists _; iexact HS1
    iexists _; iexact HS2

end Cert.KernelIdeal.Gen

end
-- ==== Proof.Stages.lean ====
/- The kernel's body, stage by stage, as functions of its blocks: the same operations the run performs, each loop written once. -/
module

public import proofs.«01_k».proof.Proof.Run
public import Idealize.ShloMosaic.Lib.Pipeline.ValueKit

@[expose] public section

set_option maxRecDepth 16384

noncomputable section

namespace Cert.Stages

open Idealize.ShloMosaic Idealize.ShloMosaic.TcCoe
open Cert.KernelIdeal Cert.KernelIdeal.Gen

variable {F : FTy → Type} [FloatOps F] [Named F]

/-- The buffers of one grid point and the blocks the inputs among them hold. -/
structure Bufs (F : FTy → Type) [FloatOps F] where
  arg1 : Memref sig .tc .vmem S1x1024x768 .fp8e4m3
  harg1 : arg1.IsWhole
  arg2 : Memref sig .tc .vmem S8x1024 .f32
  harg2 : arg2.IsWhole
  arg3 : Memref sig .tc .vmem S1x1024x768 .bf16
  harg3 : arg3.IsWhole
  arg4 : Memref sig .tc .vmem S1x768x1024 .fp8e5m2
  harg4 : arg4.IsWhole
  arg5 : Memref sig .tc .vmem S1x8x768 .f32
  harg5 : arg5.IsWhole
  arg6 : Memref sig .tc .vmem S1x768x1024 .fp8e5m2
  harg6 : arg6.IsWhole
  arg7 : Memref sig .tc .vmem S1x8x768 .f32
  harg7 : arg7.IsWhole
  arg8 : Memref sig .tc .vmem S8x768 .f32
  harg8 : arg8.IsWhole
  arg9 : Memref sig .tc .vmem S1x1024x768 .bf16
  harg9 : arg9.IsWhole
  arg10 : Memref sig .tc .vmem S3x8x768 .f32
  harg10 : arg10.IsWhole
  arg11 : Memref sig .tc .vmem S1x3x8x768 .f32
  harg11 : arg11.IsWhole
  arg12 : Memref sig .tc .vmem S1024x768 .f32
  harg12 : arg12.IsWhole
  arg13 : Memref sig .tc .vmem S1024x768 .bf16
  harg13 : arg13.IsWhole
  arg14 : Memref sig .tc .vmem S1024x768 .bf16
  harg14 : arg14.IsWhole
  x0 : Vec F S1x1024x768 .fp8e4m3
  x1 : Vec F S8x1024 .f32
  x2 : Vec F S1x1024x768 .bf16
  x3 : Vec F S1x768x1024 .fp8e5m2
  x4 : Vec F S1x8x768 .f32
  x5 : Vec F S1x768x1024 .fp8e5m2
  x6 : Vec F S1x8x768 .f32
  x7 : Vec F S8x768 .f32

/-- The list `f (n-1), …, f 0`. -/
def down {α : Type*} {N : Nat} (f : Fin N → α) : (n : Nat) → n ≤ N → List α
  | 0, _ => []
  | n + 1, h => f ⟨n, h⟩ :: down f n (by omega)

variable (i : grid0.Coords) (B : Bufs F)

/-! ## Loads -/

/-- A load from input 0. -/
abbrev l0 (r : Rect S1x1024x768) : Vec F r.shape .fp8e4m3 := B.arg1.view.readAt (Elt F) r.toLoadRect (B.harg1.unread B.x0)
/-- A load from input 1. -/
abbrev l1 (r : Rect S8x1024) : Vec F r.shape .f32 := B.arg2.view.readAt (Elt F) r.toLoadRect (B.harg2.unread B.x1)
/-- A load from input 2. -/
abbrev l2 (r : Rect S1x1024x768) : Vec F r.shape .bf16 := B.arg3.view.readAt (Elt F) r.toLoadRect (B.harg3.unread B.x2)
/-- A load from input 3. -/
abbrev l3 (r : Rect S1x768x1024) : Vec F r.shape .fp8e5m2 := B.arg4.view.readAt (Elt F) r.toLoadRect (B.harg4.unread B.x3)
/-- A load from input 4. -/
abbrev l4 (r : Rect S1x8x768) : Vec F r.shape .f32 := B.arg5.view.readAt (Elt F) r.toLoadRect (B.harg5.unread B.x4)
/-- A load from input 5. -/
abbrev l5 (r : Rect S1x768x1024) : Vec F r.shape .fp8e5m2 := B.arg6.view.readAt (Elt F) r.toLoadRect (B.harg6.unread B.x5)
/-- A load from input 6. -/
abbrev l6 (r : Rect S1x8x768) : Vec F r.shape .f32 := B.arg7.view.readAt (Elt F) r.toLoadRect (B.harg7.unread B.x6)
/-- A load from input 7. -/
abbrev l7 (r : Rect S8x768) : Vec F r.shape .f32 := B.arg8.view.readAt (Elt F) r.toLoadRect (B.harg8.unread B.x7)

/-! ## Rows, blocks, constants -/

/-- Zero. -/
abbrev zero : F .f32 := Scalar.ofBits .f32 0x00000000#32
/-- One. -/
abbrev one : F .f32 := Scalar.ofBits .f32 0x3F800000#32
/-- The row number. -/
abbrev row : IVec S8x128 32 := iota .tc S8x128 32 [0] iota_S8x128_d0_w32
/-- The sample's row within its group of eight. -/
abbrev rem8 : BitVec 32 := Scalar.remsi (BitVec.ofNat 32 (i 0).val) 8#32
/-- The sample's row within its group of eight, brought above zero. -/
abbrev b8 : BitVec 32 := Scalar.select (Scalar.andi (Scalar.xori (Scalar.cmpi .slt (rem8 i) 0#32) 0#1) (Scalar.cmpi .ne (rem8 i) 0#32)) (Scalar.addi (rem8 i) 8#32) (rem8 i)

/-- Where the row number is `k`. -/
abbrev at' (k : BitVec 32) : IVec S8x128 1 := cmpi .eq row (broadcast S8x128 k)

/-- Row `j` of the `j`-th of eight tiles. -/
def pick (p : Fin 8 → FVec F S8x128 .f32) : FVec F S8x128 .f32 :=
  select (at' 7#32) (p 7) <| select (at' 6#32) (p 6) <| select (at' 5#32) (p 5) <| select (at' 4#32) (p 4) <|
  select (at' 3#32) (p 3) <| select (at' 2#32) (p 2) <| select (at' 1#32) (p 1) <| select (at' 0#32) (p 0) (broadcast S8x128 zero)

/-- A block of 128 lanes lies inside a row of tokens. -/
theorem slice_lane (j : Fin 8) : S8x1024.Slices ![0, 128 * j.val] S8x128 := by revert j; decide
/-- Block `j` of the columns. -/
def lane (v : FVec F S8x1024 .f32) (j : Fin 8) : FVec F S8x128 .f32 := extractStridedSlice S8x128 ![0, 128 * j.val] v (slice_lane j)

/-- A tile with its rows laid out along the diagonal blocks. -/
def blockDiag (v : FVec F S8x128 .f32) : FVec F S8x1024 .f32 :=
  concatenate S8x1024 1 [⟨S8x128, select (at' 0#32) v (broadcast S8x128 zero)⟩, ⟨S8x128, select (at' 1#32) v (broadcast S8x128 zero)⟩,
    ⟨S8x128, select (at' 2#32) v (broadcast S8x128 zero)⟩, ⟨S8x128, select (at' 3#32) v (broadcast S8x128 zero)⟩,
    ⟨S8x128, select (at' 4#32) v (broadcast S8x128 zero)⟩, ⟨S8x128, select (at' 5#32) v (broadcast S8x128 zero)⟩,
    ⟨S8x128, select (at' 6#32) v (broadcast S8x128 zero)⟩, ⟨S8x128, select (at' 7#32) v (broadcast S8x128 zero)⟩]
    concatenates_S8x128_S8x128_S8x128_S8x128_S8x128_S8x128_S8x128_S8x128_S8x1024_d1

/-- The part of a tile that the narrow format holds. -/
def hi {S : Shape} (v : FVec F S .f32) : FVec F S .f32 := extf .f32 (truncf .bf16 v bitsLt_bf16_f32) bitsLt_bf16_f32
/-- What the first part leaves. -/
def rest {S : Shape} (v : FVec F S .f32) : FVec F S .f32 := subf v (hi v)
/-- The second part. -/
def mid {S : Shape} (v : FVec F S .f32) : FVec F S .f32 := hi (rest v)
/-- The third part. -/
def lo {S : Shape} (v : FVec F S .f32) : FVec F S .f32 := hi (rest (rest v))

/-! ## The scales and the weights -/

/-- The scales of the sample's activations, one row per block. -/
def xsRow : FVec F S8x1024 .f32 :=
  broadcastTo S8x1024 (shapeCast S1x1024 (shapeCast S1x1024 (multiReduction .add [0] S1024
    (select (cmpi .eq (iota .tc S8x1024 32 [0] iota_S8x1024_d0_w32) (broadcast S8x1024 (b8 i)))
      (l1 B (Rect.unit (s := S8x1024) ![0, 0] S8x1024.size inb_S8x1024_S8x1024_0_0)) (broadcast S8x1024 zero))
    0x00000000#32 reduces_S8x1024_S1024 (.inl rfl) rfl) shapeCasts_S1024_S1x1024) shapeCasts_S1x1024_S1x1024) broadcasts_S1x1024_S8x1024
/-- The scales of the sample's activations, one row per block. -/
def xs : FVec F S8x128 .f32 := pick (lane (xsRow i B))

/-- One plus the sample's modulation. -/
def mod1 : FVec F S1x768 .f32 :=
  addf (broadcast S1x768 one) (shapeCast S1x768 (multiReduction .add [0] S768
    (select (cmpi .eq (iota .tc S8x768 32 [0] iota_S8x768_d0_w32) (broadcast S8x768 (b8 i)))
      (l7 B (Rect.unit (s := S8x768) ![0, 0] S8x768.size inb_S8x768_S8x768_0_0)) (broadcast S8x768 zero))
    0x00000000#32 reduces_S8x768_S768 (.inl rfl) rfl) shapeCasts_S768_S1x768)
/-- The scales of the gradient. -/
def sh : FVec F S8x768 .f32 := shapeCast S8x768 (l6 B (Rect.unit (s := S1x8x768) ![0, 0, 0] S1x8x768.size inb_S1x8x768_S1x8x768_0_0_0)) shapeCasts_S1x8x768_S8x768
/-- The scales of the gradient with the modulation. -/
def w : FVec F S8x768 .f32 := mulf (sh B) (broadcastTo S8x768 (mod1 i B) broadcasts_S1x768_S8x768)
/-- The weights in three parts, and a row of zeros. -/
def w3 : FVec F S32x768 .bf16 :=
  truncf .bf16 (concatenate S32x768 0 [⟨S8x768, hi (w i B)⟩, ⟨S8x768, mid (w i B)⟩, ⟨S8x768, lo (w i B)⟩, ⟨S8x768, broadcast S8x768 zero⟩]
    concatenates_S8x768_S8x768_S8x768_S8x768_S32x768_d0) bitsLt_bf16_f32

/-! ## The transposed codes -/

/-- The identity matrix. -/
def eye : FVec F S256x256 .fp8e5m2 :=
  truncf .fp8e5m2 (select (cmpi .eq (iota .tc S256x256 32 [0] iota_S256x256_d0_w32) (iota .tc S256x256 32 [1] iota_S256x256_d1_w32))
    (broadcast S256x256 one) (broadcast S256x256 zero)) bitsLt_fp8e5m2_f32

/-- A square of 256 by 256 codes lies inside the gradient. -/
theorem inb_code (c : Fin 4) (k : Fin 3) : ∀ a, ![0, 256 * k.val, 256 * c.val] a + S1x256x256.size a ≤ S1x768x1024.size a := by revert c k; decide
/-- A tile of codes, transposed. -/
def codeT (v : FVec F S1x256x256 .fp8e5m2) : FVec F S256x256 .f32 :=
  matmul dot_S256x256_S256x256_S256x256_1_1_0_0_n_n none eye (shapeCast S256x256 v shapeCasts_S1x256x256_S256x256)
    (constant S256x256 .f32 0x00000000#32)
/-- The rectangle of one tile of codes. -/
abbrev codeRect (c : Fin 4) (k : Fin 3) : Rect S1x768x1024 := Rect.unit (s := S1x768x1024) ![0, 256 * k.val, 256 * c.val] S1x256x256.size (inb_code c k)
/-- A tile of the second gradient's codes, transposed. -/
def dhT (c : Fin 4) (k : Fin 3) : FVec F S256x256 .f32 := codeT (l5 B (codeRect c k))
/-- The same in the narrow format. -/
def dhbT (c : Fin 4) (k : Fin 3) : FVec F S256x256 .bf16 := truncf .bf16 (dhT B c k) bitsLt_bf16_f32
/-- A square of 256 by 256 codes lies inside the activations. -/
theorem inb_x (c : Fin 4) (k : Fin 3) : ∀ a, ![0, 256 * c.val, 256 * k.val] a + S1x256x256.size a ≤ S1x1024x768.size a := by revert c k; decide
/-- Its product with the activations' codes. -/
def pT (c : Fin 4) (k : Fin 3) : FVec F S256x256 .bf16 :=
  mulf (dhbT B c k) (extf .bf16 (shapeCast S256x256 (l0 B (Rect.unit (s := S1x1024x768) ![0, 256 * c.val, 256 * k.val] S1x256x256.size (inb_x c k))) shapeCasts_S1x256x256_S256x256) bitsLt_fp8e4m3_bf16)

/-- A square of 256 by 256 lies inside the transposed gradient. -/
theorem inb_t (n : Fin 12) : ∀ a, ![256 * (n.val / 3), 256 * (n.val % 3)] a + S256x256.size a ≤ S1024x768.size a := by revert n; decide
/-- The rectangle of tile `n`. -/
abbrev tRect (n : Fin 12) : Rect S1024x768 := Rect.unit (s := S1024x768) ![256 * (n.val / 3), 256 * (n.val % 3)] S256x256.size (inb_t n)
/-- The tile's row of tiles. -/
abbrev tc (n : Fin 12) : Fin 4 := ⟨n.val / 3, by omega⟩
/-- The tile's column of tiles. -/
abbrev tk (n : Fin 12) : Fin 3 := ⟨n.val % 3, by omega⟩
/-- What the first scratch buffer holds. -/
def T0 : List (View.Piece (Elt F) S1024x768 .f32) := down (fun n => ⟨tRect n, shapeCast S256x256 (dhT B (tc n) (tk n)) shapeCasts_S256x256_S256x256⟩) 12 (Nat.le_refl _)
/-- What the second scratch buffer holds. -/
def T1 : List (View.Piece (Elt F) S1024x768 .bf16) := down (fun n => ⟨tRect n, shapeCast S256x256 (dhbT B (tc n) (tk n)) shapeCasts_S256x256_S256x256⟩) 12 (Nat.le_refl _)
/-- What the third scratch buffer holds. -/
def T2 : List (View.Piece (Elt F) S1024x768 .bf16) := down (fun n => ⟨tRect n, shapeCast S256x256 (pT B (tc n) (tk n)) shapeCasts_S256x256_S256x256⟩) 12 (Nat.le_refl _)

/-! ## The sums over the channels -/

/-- The whole of a scratch buffer. -/
abbrev tAll : Rect S1024x768 := Rect.unit (s := S1024x768) ![0, 0] S1024x768.size inb_S1024x768_S1024x768_0_0
/-- The second scratch buffer read back. -/
def dhb : FVec F S1024x768 .bf16 := B.arg13.view.readCov (T1 B) tAll.toLoadRect
/-- The third scratch buffer read back. -/
def p : FVec F S1024x768 .bf16 := B.arg14.view.readCov (T2 B) tAll.toLoadRect

/-- The sums of the activations' codes. -/
def sAll : FVec F S8x1024 .f32 :=
  extractStridedSlice S8x1024 ![0, 0] (matmul dot_S16x768_S1024x768_S16x1024_1_1_0_0_n_n none (broadcast S16x768 (Scalar.ofBits .bf16 0x3F80#16))
    (shapeCast S1024x768 (l0 B (Rect.unit (s := S1x1024x768) ![0, 0, 0] S1x1024x768.size inb_S1x1024x768_S1x1024x768_0_0_0)) shapeCasts_S1x1024x768_S1024x768)
    (constant S16x1024 .f32 0x00000000#32)) slices_S16x1024_o0_0_S8x1024
/-- The three parts of a product, added up. -/
def fold3 (v : FVec F S32x1024 .f32) : FVec F S8x1024 .f32 :=
  addf (addf (extractStridedSlice S8x1024 ![0, 0] v slices_S32x1024_o0_0_S8x1024) (extractStridedSlice S8x1024 ![8, 0] v slices_S32x1024_o8_0_S8x1024))
    (extractStridedSlice S8x1024 ![16, 0] v slices_S32x1024_o16_0_S8x1024)
/-- The weighted sums of the gradient's codes. -/
def gAll : FVec F S8x1024 .f32 :=
  fold3 (matmul dot_S32x768_S768x1024_S32x1024_1_0_0_1_n_n none (w3 i B)
    (shapeCast S768x1024 (l5 B (Rect.unit (s := S1x768x1024) ![0, 0, 0] S1x768x1024.size inb_S1x768x1024_S1x768x1024_0_0_0)) shapeCasts_S1x768x1024_S768x1024)
    (constant S32x1024 .f32 0x00000000#32))
/-- The weighted sums of the products. -/
def gxAll : FVec F S8x1024 .f32 :=
  fold3 (matmul dot_S32x768_S1024x768_S32x1024_1_1_0_0_n_n none (w3 i B) (p B) (constant S32x1024 .f32 0x00000000#32))

/-- A square of 128 by 128 codes lies inside the activations. -/
theorem inb_sq (j : Fin 8) (k : Fin 6) : ∀ a, ![0, 128 * j.val, 128 * k.val] a + S1x128x128.size a ≤ S1x1024x768.size a := by revert j k; decide
/-- A tile of the activations' codes. -/
def xSq (j : Fin 8) (k : Fin 6) : FVec F S128x128 .f32 :=
  extf .f32 (shapeCast S128x128 (l0 B (Rect.unit (s := S1x1024x768) ![0, 128 * j.val, 128 * k.val] S1x128x128.size (inb_sq j k))) shapeCasts_S1x128x128_S128x128) bitsLt_fp8e4m3_f32
/-- The sums of the squares over one block of tokens. -/
def ssJ (j : Fin 8) : FVec F S8x128 .f32 :=
  broadcastTo S8x128 (shapeCast S1x128 (shapeCast S1x128 (multiReduction .add [0] S128 (transpose S128x128 [1, 0]
    (addf (addf (addf (addf (addf (mulf (xSq B j 0) (xSq B j 0)) (mulf (xSq B j 1) (xSq B j 1))) (mulf (xSq B j 2) (xSq B j 2)))
      (mulf (xSq B j 3) (xSq B j 3))) (mulf (xSq B j 4) (xSq B j 4))) (mulf (xSq B j 5) (xSq B j 5))) transposes_S128x128_p1_0_S128x128)
    0x00000000#32 reduces_S128x128_S128 (.inl rfl) rfl) shapeCasts_S128_S1x128) shapeCasts_S1x128_S1x128) broadcasts_S1x128_S8x128
/-- The sums of the squares. -/
def ss : FVec F S8x128 .f32 := pick (ssJ B)
/-- The sums. -/
def s : FVec F S8x128 .f32 := pick (lane (sAll B))
/-- The weighted sums of the gradient. -/
def gs : FVec F S8x128 .f32 := pick (lane (gAll i B))
/-- The weighted sums of the products. -/
def gx : FVec F S8x128 .f32 := pick (lane (gxAll i B))

/-! ## The statistics -/

/-- One over the number of channels. -/
abbrev invD : FVec F S8x128 .f32 := broadcast S8x128 (Named.named κ "inv_d" 0x3AAAAAAB#32)
/-- The mean. -/
def m : FVec F S8x128 .f32 := mulf (s B) invD
/-- The variance. -/
def var : FVec F S8x128 .f32 := maximumf (subf (mulf (ss B) invD) (mulf (m B) (m B))) (broadcast S8x128 zero)
/-- The reciprocal of the standard deviation. -/
def rstd : FVec F S8x128 .f32 :=
  rsqrt (addf (mulf (mulf (xs i B) (xs i B)) (var B)) (broadcast S8x128 (Scalar.ofBits .f32 0x358637BD#32)))
/-- The factor of the activations' codes in the normalised activations. -/
def a : FVec F S8x128 .f32 := mulf (xs i B) (rstd i B)
/-- The constant in the normalised activations. -/
def b0 : FVec F S8x128 .f32 := mulf (subf (broadcast S8x128 zero) (m B)) (a i B)
/-- The mean of the gradient times the normalised activations. -/
def meanGX : FVec F S8x128 .f32 := mulf (addf (mulf (a i B) (gx i B)) (mulf (b0 i B) (gs i B))) invD
/-- The factor of the activations' codes in the result. -/
def alpha : FVec F S8x128 .f32 := mulf (mulf (subf (broadcast S8x128 zero) (rstd i B)) (a i B)) (meanGX i B)
/-- The constant in the result. -/
def beta : FVec F S8x128 .f32 :=
  mulf (subf (broadcast S8x128 zero) (rstd i B)) (addf (mulf (gs i B) invD) (mulf (b0 i B) (meanGX i B)))

/-! ## The gradients of shift and scale -/

/-- Four tiles of rows, narrowed. -/
def rows4 (u v x y : FVec F S8x1024 .f32) : FVec F S32x1024 .bf16 :=
  truncf .bf16 (concatenate S32x1024 0 [⟨S8x1024, u⟩, ⟨S8x1024, v⟩, ⟨S8x1024, x⟩, ⟨S8x1024, y⟩] concatenates_S8x1024_S8x1024_S8x1024_S8x1024_S32x1024_d0) bitsLt_bf16_f32
/-- The block sums weighted by the first statistic. -/
def ra : FVec F S32x768 .f32 :=
  matmul dot_S32x1024_S1024x768_S32x768_1_0_0_1_n_n none
    (rows4 (blockDiag (hi (a i B))) (blockDiag (mid (a i B))) (blockDiag (lo (a i B))) (broadcast S8x1024 zero)) (p B) (constant S32x768 .f32 0x00000000#32)
/-- The block sums weighted by the second statistic, and the plain ones. -/
def rb : FVec F S32x768 .f32 :=
  matmul dot_S32x1024_S1024x768_S32x768_1_0_0_1_n_n none
    (rows4 (blockDiag (hi (b0 i B))) (blockDiag (mid (b0 i B))) (blockDiag (lo (b0 i B))) (blockDiag (broadcast S8x128 one))) (dhb B) (constant S32x768 .f32 0x00000000#32)
/-- The gradient of the shift, by blocks. -/
def dshift : FVec F S1x1x8x768 .f32 :=
  shapeCast S1x1x8x768 (mulf (sh B) (extractStridedSlice S8x768 ![24, 0] (rb i B) slices_S32x768_o24_0_S8x768)) shapeCasts_S8x768_S1x1x8x768
/-- The gradient of the scale, by blocks. -/
def dscale : FVec F S1x1x8x768 .f32 :=
  shapeCast S1x1x8x768 (mulf (sh B) (addf (addf (addf (addf (addf (extractStridedSlice S8x768 ![0, 0] (ra i B) slices_S32x768_o0_0_S8x768)
    (extractStridedSlice S8x768 ![8, 0] (ra i B) slices_S32x768_o8_0_S8x768)) (extractStridedSlice S8x768 ![16, 0] (ra i B) slices_S32x768_o16_0_S8x768))
    (extractStridedSlice S8x768 ![0, 0] (rb i B) slices_S32x768_o0_0_S8x768)) (extractStridedSlice S8x768 ![8, 0] (rb i B) slices_S32x768_o8_0_S8x768))
    (extractStridedSlice S8x768 ![16, 0] (rb i B) slices_S32x768_o16_0_S8x768))) shapeCasts_S8x768_S1x1x8x768

/-! ## The gradient of the activations and of the gate -/

/-- A row lies inside the eight. -/
theorem slice_row (j : Fin 8) : S8x128.Slices ![j.val, 0] S1x128 := by revert j; decide
/-- Row `j` of a statistic, as a column repeated. -/
def column (v : FVec F S8x128 .f32) (j : Fin 8) : FVec F S128x128 .f32 :=
  transpose S128x128 [1, 0] (broadcastTo S128x128 (shapeCast S1x128 (extractStridedSlice S1x128 ![j.val, 0] v (slice_row j)) shapeCasts_S1x128_S1x128) broadcasts_S1x128_S128x128) transposes_S128x128_p1_0_S128x128

/-- The tile of 256 tokens with block `j`. -/
abbrev jc (j : Fin 8) : Fin 4 := ⟨j.val / 2, by omega⟩
/-- The tile of 256 channels with group `k`. -/
abbrev kc (k : Fin 6) : Fin 3 := ⟨k.val / 2, by omega⟩
/-- The first gradient's codes, transposed. -/
def dyT (c : Fin 4) (k : Fin 3) : FVec F S256x256 .f32 := codeT (l3 B (codeRect c k))
/-- A block's scales of 128 channels lie inside the sample's. -/
theorem inb_sy (j : Fin 8) (k : Fin 6) : ∀ a, ![0, j.val, 128 * k.val] a + S1x1x128.size a ≤ S1x8x768.size a := by revert j k; decide
/-- The scales of the first gradient for block `j`. -/
def sy (j : Fin 8) (k : Fin 6) : FVec F S1x128 .f32 :=
  shapeCast S1x128 (l4 B (Rect.unit (s := S1x8x768) ![0, j.val, 128 * k.val] S1x1x128.size (inb_sy j k))) shapeCasts_S1x1x128_S1x128
/-- A block's weights of 128 channels lie inside the sample's. -/
theorem slice_w (j : Fin 8) (k : Fin 6) : S8x768.Slices ![j.val, 128 * k.val] S1x128 := by revert j k; decide
/-- Sixteen tokens by 128 channels lie inside a square of 256. -/
theorem slice_dy (j : Fin 8) (k : Fin 6) (r : Fin 8) : S256x256.Slices ![128 * (j.val % 2) + 16 * r.val, 128 * (k.val % 2)] S16x128 := by revert j k r; decide
/-- Sixteen tokens of the first gradient's codes. -/
def dyv (j : Fin 8) (k : Fin 6) (r : Fin 8) : FVec F S16x128 .f32 :=
  extractStridedSlice S16x128 ![128 * (j.val % 2) + 16 * r.val, 128 * (k.val % 2)] (dyT B (jc j) (kc k)) (slice_dy j k r)
/-- Sixteen tokens by 128 channels lie inside the activations. -/
theorem inb_16 (j : Fin 8) (k : Fin 6) (r : Fin 8) : ∀ a, ![0, 128 * j.val + 16 * r.val, 128 * k.val] a + S1x16x128.size a ≤ S1x1024x768.size a := by
  revert j k r; decide
/-- The rectangle of sixteen tokens by 128 channels. -/
abbrev rect16 (j : Fin 8) (k : Fin 6) (r : Fin 8) : Rect S1x1024x768 :=
  Rect.unit (s := S1x1024x768) ![0, 128 * j.val + 16 * r.val, 128 * k.val] S1x16x128.size (inb_16 j k r)
/-- Sixteen tokens by 128 channels lie inside the transposed gradient. -/
theorem inb_16t (j : Fin 8) (k : Fin 6) (r : Fin 8) : ∀ a, ![128 * j.val + 16 * r.val, 128 * k.val] a + S16x128.size a ≤ S1024x768.size a := by
  revert j k r; decide
/-- Sixteen tokens lie inside a block of 128. -/
theorem slice_c (r : Fin 8) : S128x128.Slices ![16 * r.val, 0] S16x128 := by revert r; decide
/-- Sixteen rows of a repeated column. -/
def col16 (v : FVec F S8x128 .f32) (j r : Fin 8) : FVec F S16x128 .f32 := extractStridedSlice S16x128 ![16 * r.val, 0] (column v j) (slice_c r)
/-- Sixteen tokens of the second gradient's codes, read back. -/
def dht16 (j : Fin 8) (k : Fin 6) (r : Fin 8) : FVec F S16x128 .f32 :=
  B.arg12.view.readCov (T0 B) (Rect.unit (s := S1024x768) ![128 * j.val + 16 * r.val, 128 * k.val] S16x128.size (inb_16t j k r)).toLoadRect
/-- Sixteen tokens of the result. -/
def dxTile (j : Fin 8) (k : Fin 6) (r : Fin 8) : FVec F S1x16x128 .bf16 :=
  shapeCast S1x16x128 (truncf .bf16 (addf
    (addf (mulf (dyv B j k r) (broadcastTo S16x128 (sy B j k) broadcasts_S1x128_S16x128))
      (mulf (mulf (dht16 B j k r) (broadcastTo S16x128 (extractStridedSlice S1x128 ![j.val, 128 * k.val] (w i B) (slice_w j k)) broadcasts_S1x128_S16x128)) (col16 (rstd i B) j r)))
    (addf (mulf (extf .f32 (shapeCast S16x128 (l0 B (rect16 j k r)) shapeCasts_S1x16x128_S16x128) bitsLt_fp8e4m3_f32) (col16 (alpha i B) j r)) (col16 (beta i B) j r)))
    bitsLt_bf16_f32) shapeCasts_S16x128_S1x16x128

/-- Sixteen tokens' products of the first gradient and the branch, folded to eight rows. -/
def pr (j : Fin 8) (k : Fin 6) (r : Fin 8) : FVec F S8x128 .f32 :=
  addf (extractStridedSlice S8x128 ![0, 0] (mulf (dyv B j k r) (extf .f32 (shapeCast S16x128 (l2 B (rect16 j k r)) shapeCasts_S1x16x128_S16x128) bitsLt_bf16_f32)) slices_S16x128_o0_0_S8x128)
    (extractStridedSlice S8x128 ![8, 0] (mulf (dyv B j k r) (extf .f32 (shapeCast S16x128 (l2 B (rect16 j k r)) shapeCasts_S1x16x128_S16x128) bitsLt_bf16_f32)) slices_S16x128_o8_0_S8x128)
/-- The gradient of the gate over one block, 128 channels. -/
def gateTile (j : Fin 8) (k : Fin 6) : FVec F S1x1x1x128 .f32 :=
  shapeCast S1x1x1x128 (mulf (shapeCast S1x128 (multiReduction .add [0] S128
    (addf (addf (addf (addf (addf (addf (addf (addf (broadcast S8x128 zero) (pr B j k 0)) (pr B j k 1)) (pr B j k 2)) (pr B j k 3)) (pr B j k 4)) (pr B j k 5)) (pr B j k 6)) (pr B j k 7))
    0x00000000#32 reduces_S8x128_S128 (.inl rfl) rfl) shapeCasts_S128_S1x128) (sy B j k)) shapeCasts_S1x128_S1x1x1x128

/-! ## What the outputs hold -/

/-- The block of tokens of the `n`-th piece of the first output. -/
abbrev dj (n : Fin 384) : Fin 8 := ⟨2 * (n.val / 96) + n.val / 16 % 2, by omega⟩
/-- The group of channels of the `n`-th piece of the first output. -/
abbrev dk (n : Fin 384) : Fin 6 := ⟨2 * (n.val / 32 % 3) + n.val / 8 % 2, by omega⟩
/-- The sixteen tokens of the `n`-th piece of the first output. -/
abbrev dr (n : Fin 384) : Fin 8 := ⟨n.val % 8, by omega⟩
/-- The pieces of the first output. -/
def P8 : List (View.Piece (Elt F) S1x1024x768 .bf16) :=
  down (fun n => ⟨rect16 (dj n) (dk n) (dr n), dxTile i B (dj n) (dk n) (dr n)⟩) 384 (Nat.le_refl _)

/-- The block of tokens of the `n`-th piece of the gate. -/
abbrev gj (n : Fin 48) : Fin 8 := ⟨2 * (n.val / 12) + n.val / 2 % 2, by omega⟩
/-- The group of channels of the `n`-th piece of the gate. -/
abbrev gk (n : Fin 48) : Fin 6 := ⟨2 * (n.val / 4 % 3) + n.val % 2, by omega⟩
/-- 128 channels of a block lie inside the gate plane of the partial sums. -/
theorem inb_gate (j : Fin 8) (k : Fin 6) : ∀ a, ![0, 2, j.val, 128 * k.val] a + S1x1x1x128.size a ≤ S1x3x8x768.size a := by revert j k; decide
/-- The pieces of the block sums. -/
def P10 : List (View.Piece (Elt F) S1x3x8x768 .f32) :=
  down (fun n => ⟨Rect.unit (s := S1x3x8x768) ![0, 2, (gj n).val, 128 * (gk n).val] S1x1x1x128.size (inb_gate (gj n) (gk n)), gateTile B (gj n) (gk n)⟩) 48 (Nat.le_refl _) ++
  [⟨Rect.unit (s := S1x3x8x768) ![0, 1, 0, 0] S1x1x8x768.size inb_S1x3x8x768_S1x1x8x768_0_1_0_0, dscale i B⟩,
   ⟨Rect.unit (s := S1x3x8x768) ![0, 0, 0, 0] S1x1x8x768.size inb_S1x3x8x768_S1x1x8x768_0_0_0_0, dshift i B⟩]

/-- The sample's row of an output of eight rows. -/
def mine : IVec S1x8x768 1 :=
  shapeCast S1x8x768 (cmpi .eq (iota .tc S8x768 32 [0] iota_S8x768_d0_w32) (broadcast S8x768 (b8 i))) shapeCasts_S8x768_S1x8x768
/-- The sums over the blocks, repeated on eight rows. -/
def total (v : FVec F S1x1x8x768 .f32) : FVec F S1x8x768 .f32 :=
  shapeCast S1x8x768 (broadcastTo S8x768 (shapeCast S1x768 (shapeCast S1x768 (multiReduction .add [0] S768
    (shapeCast S8x768 v shapeCasts_S1x1x8x768_S8x768) 0x00000000#32 reduces_S8x768_S768 (.inl rfl) rfl) shapeCasts_S768_S1x768) shapeCasts_S1x768_S1x768) broadcasts_S1x768_S8x768) shapeCasts_S8x768_S1x8x768
/-- A plane lies inside the partial sums. -/
theorem inb_q (q : Fin 3) : ∀ a, ![0, q.val, 0, 0] a + S1x1x8x768.size a ≤ S1x3x8x768.size a := by revert q; decide
/-- One of the three block sums, read back. -/
def back (q : Fin 3) : FVec F S1x1x8x768 .f32 := B.arg11.view.readCov (P10 i B) (Rect.unit (s := S1x3x8x768) ![0, q.val, 0, 0] S1x1x8x768.size (inb_q q)).toLoadRect

variable (c : Dev nD)

/-- What the run leaves in the scratch of the transposed gradient is the stages' list of squares. -/
theorem run_T0 : (bodyRun c i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7).2.2.2.1 = T0 B := by sl_kernel_rfl
/-- What the run stores of the first result is the stages' list of pieces. -/
theorem run_L8 : (bodyRun c i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7).1 = P8 i B := by sl_kernel_rfl
/-- What the run stores of the third result is the stages' list of pieces. -/
theorem run_L10 : (bodyRun c i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7).2.2.1 = P10 i B := by sl_kernel_rfl

end Cert.Stages

end
-- ==== Proof.Rows.lean ====
/- What a grid point leaves in its block of sums over samples: its own row is overwritten, the other rows stay. -/
module

public import proofs.«01_k».proof.Proof.Stages
public import Idealize.ShloMosaic.Lib.Pointwise

@[expose] public section

set_option maxRecDepth 16384

noncomputable section

namespace Cert.Stages

open Idealize.ShloMosaic Idealize.ShloMosaic.TcCoe Cert.KernelIdeal Cert.KernelIdeal.Gen

variable {F : FTy → Type} [FloatOps F] [Named F] (i : grid0.Coords) (B : Bufs F) (c : Dev nD)

/-- A plane lies inside the block of sums. -/
theorem inb_plane (q : Fin 3) : ∀ a, ![q.val, 0, 0] a + S1x8x768.size a ≤ S3x8x768.size a := by revert q; decide
/-- Plane `q` of the block of sums. -/
abbrev plane (q : Fin 3) : Rect S3x8x768 := Rect.unit (s := S3x8x768) ![q.val, 0, 0] S1x8x768.size (inb_plane q)

/-- Where an entry of plane `q` sits. -/
theorem plane_emb (q : Fin 3) (x : S1x8x768.Idx) : (plane q).emb x = ValueIdx.ix3 q (x 1) (x 2) := by
  have h0 : (x 0).val = 0 := Nat.lt_one_iff.mp (x 0).isLt
  refine funext fun a => Fin.ext ?_
  refine (ValueKit.rect_emb_unit_val _ _ _ x a).trans ?_
  match a with
  | ⟨0, _⟩ => exact (congrArg (q.val + ·) h0)
  | ⟨1, _⟩ => exact Nat.zero_add _
  | ⟨2, _⟩ => exact Nat.zero_add _

/-- A masked store of one plane, reading the whole block back. -/
theorem read_plane (m : Memref sig .tc .vmem S3x8x768 .f32) (q p : Fin 3) (f : m.view.ty.Contents (Elt F))
    (w : FVec F S1x8x768 .f32) (M : IVec S1x8x768 1) (r : Fin 8) (k : Fin 768) :
    m.view.read (Elt F) ((m.access (plane q)).write (Elt F) f w M.on) (ValueIdx.ix3 p r k)
      = if p = q ∧ M (ValueIdx.ix3 (0 : Fin 1) r k) = 1 then w (ValueIdx.ix3 (0 : Fin 1) r k) else m.view.read (Elt F) f (ValueIdx.ix3 p r k) := by
  by_cases h : p = q ∧ M (ValueIdx.ix3 (0 : Fin 1) r k) = 1
  · rw [if_pos h]
    have e : ValueIdx.ix3 p r k = (plane q).emb (ValueIdx.ix3 (0 : Fin 1) r k) := by rw [h.1]; exact (plane_emb q (ValueIdx.ix3 (0 : Fin 1) r k)).symm
    rw [e]
    exact View.read_slice_write_emb (Val := Elt F) (v := m.view) (plane q) f w (M := M.on) (x := ValueIdx.ix3 (0 : Fin 1) r k) (Finset.mem_filter.mpr ⟨Finset.mem_univ _, h.2⟩)
  · rw [if_neg h]
    refine View.read_slice_write_of_not_mem (Val := Elt F) (v := m.view) (plane q) f w M.on fun hm => h ?_
    obtain ⟨x, hx, hxe⟩ := Finset.mem_map.mp hm
    rw [plane_emb] at hxe
    have e0 : q = p := congrFun hxe 0
    have e1 : x 1 = r := congrFun hxe 1
    have e2 : x 2 = k := congrFun hxe 2
    have ex : x = ValueIdx.ix3 (0 : Fin 1) r k := by
      refine funext fun a => ?_
      match a with
      | ⟨0, _⟩ => exact Fin.ext (Nat.lt_one_iff.mp (x 0).isLt)
      | ⟨1, _⟩ => exact e1
      | ⟨2, _⟩ => exact e2
    exact ⟨e0.symm, ex ▸ (Finset.mem_filter.mp hx).2⟩

/-- The block of sums after the point's three masked stores. -/
def left9 (d : S3x8x768.Idx → Elt F .f32) : S3x8x768.Idx → Elt F .f32 :=
  B.arg10.view.read (Elt F) ((B.arg10.access (plane 2)).write (Elt F)
    ((B.arg10.access (plane 1)).write (Elt F)
      ((B.arg10.access (plane 0)).write (Elt F) (B.harg10.unread d) (total (back i B 0)) (mine i).on)
      (total (back i B 1)) (mine i).on)
    (total (back i B 2)) (mine i).on)

/-- What the run leaves in the block of sums. -/
theorem run_W9 (d : S3x8x768.Idx → Elt F .f32) : (bodyRun c i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7).2.1 d = left9 i B d := by sl_kernel_rfl

/-- The block of sums, entry by entry: the masked rows hold the new sums, the others what was there. -/
theorem left9_apply (d : S3x8x768.Idx → Elt F .f32) (q : Fin 3) (r : Fin 8) (k : Fin 768) :
    left9 i B d (ValueIdx.ix3 q r k) = if mine i (ValueIdx.ix3 (0 : Fin 1) r k) = 1 then total (back i B q) (ValueIdx.ix3 (0 : Fin 1) r k) else d (ValueIdx.ix3 q r k) := by
  unfold left9
  rw [read_plane, read_plane, read_plane, Memref.IsWhole.read_unread]
  by_cases h : mine i (ValueIdx.ix3 (0 : Fin 1) r k) = 1
  · simp only [h, and_true, if_true]
    fin_cases q <;> rfl
  · simp only [h, and_false, if_false]

/-- The sample's row is its number modulo eight. -/
theorem b8_eq : b8 i = BitVec.ofNat 32 ((i 0).val % 8) := by
  have : ∀ n : Fin 112, Scalar.select (Scalar.andi (Scalar.xori (Scalar.cmpi .slt (Scalar.remsi (BitVec.ofNat 32 n.val) 8#32) 0#32) 0#1) (Scalar.cmpi .ne (Scalar.remsi (BitVec.ofNat 32 n.val) 8#32) 0#32)) (Scalar.addi (Scalar.remsi (BitVec.ofNat 32 n.val) 8#32) 8#32) (Scalar.remsi (BitVec.ofNat 32 n.val) 8#32) = BitVec.ofNat 32 (n.val % 8) := by decide +kernel
  exact this ⟨(i 0).val, (i 0).isLt⟩

/-- The mask of the store picks the sample's row. -/
theorem mine_eq (r : Fin 8) (k : Fin 768) : mine i (ValueIdx.ix3 (0 : Fin 1) r k) = 1 ↔ r.val = (i 0).val % 8 := by
  have h : mine i (ValueIdx.ix3 (0 : Fin 1) r k) = IntOp.cmpi .eq (BitVec.ofNat 32 r.val) (b8 i) := by
    pointwise [mine]
  rw [h, b8_eq]
  exact (by decide +kernel : ∀ a b : Fin 8, IntOp.cmpi .eq (BitVec.ofNat 32 a.val) (BitVec.ofNat 32 b.val) = 1 ↔ a.val = b.val) r ⟨(i 0).val % 8, Nat.mod_lt _ (by decide)⟩

end Cert.Stages
-- ==== Proof.Exact.lean ====
/- The kernel's run with its results: what each grid point leaves in the three outputs, the body's obligation to the pipeline, the launch
   and the frame. The first output and the block sums are written whole at every point; the block of per-sample sums is held to what its
   rows are after each point. -/
module

public import proofs.«01_k».proof.Proof.Rows
public import Idealize.ShloMosaic.Lib.Claim
public import Idealize.ShloMosaic.Lib.Pipeline.DatRel

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 8 tile its block (384 stores of `S1x16x128`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1x1024x768 .fp8e4m3) (harg1 : arg1.IsWhole) (arg2 : Memref sig .tc .vmem S8x1024 .f32) (harg2 : arg2.IsWhole) (arg3 : Memref sig .tc .vmem S1x1024x768 .bf16) (harg3 : arg3.IsWhole) (arg4 : Memref sig .tc .vmem S1x768x1024 .fp8e5m2) (harg4 : arg4.IsWhole) (arg5 : Memref sig .tc .vmem S1x8x768 .f32) (harg5 : arg5.IsWhole) (arg6 : Memref sig .tc .vmem S1x768x1024 .fp8e5m2) (harg6 : arg6.IsWhole) (arg7 : Memref sig .tc .vmem S1x8x768 .f32) (harg7 : arg7.IsWhole) (arg8 : Memref sig .tc .vmem S8x768 .f32) (harg8 : arg8.IsWhole) (arg9 : Memref sig .tc .vmem S1x1024x768 .bf16) (harg9 : arg9.IsWhole) (arg10 : Memref sig .tc .vmem S3x8x768 .f32) (harg10 : arg10.IsWhole) (arg11 : Memref sig .tc .vmem S1x3x8x768 .f32) (harg11 : arg11.IsWhole) (arg12 : Memref sig .tc .vmem S1024x768 .f32) (harg12 : arg12.IsWhole) (arg13 : Memref sig .tc .vmem S1024x768 .bf16) (harg13 : arg13.IsWhole) (arg14 : Memref sig .tc .vmem S1024x768 .bf16) (harg14 : arg14.IsWhole)
    (x0 : Vec F S1x1024x768 .fp8e4m3) (x1 : Vec F S8x1024 .f32) (x2 : Vec F S1x1024x768 .bf16) (x3 : Vec F S1x768x1024 .fp8e5m2) (x4 : Vec F S1x8x768 .f32) (x5 : Vec F S1x768x1024 .fp8e5m2) (x6 : Vec F S1x8x768 .f32) (x7 : Vec F S8x768 .f32) (y : S1x1024x768.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1 S1x16x128.size (by sl_kernel_rfl) y

/-- What the run leaves in output 8's staging buffer: its pieces read back over junk. -/
def out0_A_8 (c : Dev nD) (i : grid0.Coords) (arg1 : Memref sig .tc .vmem S1x1024x768 .fp8e4m3) (harg1 : arg1.IsWhole) (arg2 : Memref sig .tc .vmem S8x1024 .f32) (harg2 : arg2.IsWhole) (arg3 : Memref sig .tc .vmem S1x1024x768 .bf16) (harg3 : arg3.IsWhole) (arg4 : Memref sig .tc .vmem S1x768x1024 .fp8e5m2) (harg4 : arg4.IsWhole) (arg5 : Memref sig .tc .vmem S1x8x768 .f32) (harg5 : arg5.IsWhole) (arg6 : Memref sig .tc .vmem S1x768x1024 .fp8e5m2) (harg6 : arg6.IsWhole) (arg7 : Memref sig .tc .vmem S1x8x768 .f32) (harg7 : arg7.IsWhole) (arg8 : Memref sig .tc .vmem S8x768 .f32) (harg8 : arg8.IsWhole) (arg9 : Memref sig .tc .vmem S1x1024x768 .bf16) (harg9 : arg9.IsWhole) (arg10 : Memref sig .tc .vmem S3x8x768 .f32) (harg10 : arg10.IsWhole) (arg11 : Memref sig .tc .vmem S1x3x8x768 .f32) (harg11 : arg11.IsWhole) (arg12 : Memref sig .tc .vmem S1024x768 .f32) (harg12 : arg12.IsWhole) (arg13 : Memref sig .tc .vmem S1024x768 .bf16) (harg13 : arg13.IsWhole) (arg14 : Memref sig .tc .vmem S1024x768 .bf16) (harg14 : arg14.IsWhole)
    (x0 : Vec F S1x1024x768 .fp8e4m3) (x1 : Vec F S8x1024 .f32) (x2 : Vec F S1x1024x768 .bf16) (x3 : Vec F S1x768x1024 .fp8e5m2) (x4 : Vec F S1x8x768 .f32) (x5 : Vec F S1x768x1024 .fp8e5m2) (x6 : Vec F S1x8x768 .f32) (x7 : Vec F S8x768 .f32) : Vec F S1x1024x768 .bf16 :=
  VO0_8.read (Elt F) (VO0_8.writes (Elt F) VO0_8.junk (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1)

/-- What the run leaves in output 9's staging buffer: as a function of what it found there. -/
def out0_A_9 (c : Dev nD) (i : grid0.Coords) (arg1 : Memref sig .tc .vmem S1x1024x768 .fp8e4m3) (harg1 : arg1.IsWhole) (arg2 : Memref sig .tc .vmem S8x1024 .f32) (harg2 : arg2.IsWhole) (arg3 : Memref sig .tc .vmem S1x1024x768 .bf16) (harg3 : arg3.IsWhole) (arg4 : Memref sig .tc .vmem S1x768x1024 .fp8e5m2) (harg4 : arg4.IsWhole) (arg5 : Memref sig .tc .vmem S1x8x768 .f32) (harg5 : arg5.IsWhole) (arg6 : Memref sig .tc .vmem S1x768x1024 .fp8e5m2) (harg6 : arg6.IsWhole) (arg7 : Memref sig .tc .vmem S1x8x768 .f32) (harg7 : arg7.IsWhole) (arg8 : Memref sig .tc .vmem S8x768 .f32) (harg8 : arg8.IsWhole) (arg9 : Memref sig .tc .vmem S1x1024x768 .bf16) (harg9 : arg9.IsWhole) (arg10 : Memref sig .tc .vmem S3x8x768 .f32) (harg10 : arg10.IsWhole) (arg11 : Memref sig .tc .vmem S1x3x8x768 .f32) (harg11 : arg11.IsWhole) (arg12 : Memref sig .tc .vmem S1024x768 .f32) (harg12 : arg12.IsWhole) (arg13 : Memref sig .tc .vmem S1024x768 .bf16) (harg13 : arg13.IsWhole) (arg14 : Memref sig .tc .vmem S1024x768 .bf16) (harg14 : arg14.IsWhole)
    (x0 : Vec F S1x1024x768 .fp8e4m3) (x1 : Vec F S8x1024 .f32) (x2 : Vec F S1x1024x768 .bf16) (x3 : Vec F S1x768x1024 .fp8e5m2) (x4 : Vec F S1x8x768 .f32) (x5 : Vec F S1x768x1024 .fp8e5m2) (x6 : Vec F S1x8x768 .f32) (x7 : Vec F S8x768 .f32) : Vec F S3x8x768 .f32 → Vec F S3x8x768 .f32 :=
  (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1

/-- The run's pieces for output 10 are of SEVERAL sizes (50 stores of `S1x1x1x128`, `S1x1x8x768`): cut into blocks of `![1, 1, 1, 128]` they tile its block (checked by the kernel's evaluation: Lib/Ring.lean `Piece.tiledBy`), so they cover it. -/
theorem cover0_A_10 (c : Dev nD) (i : grid0.Coords) (arg1 : Memref sig .tc .vmem S1x1024x768 .fp8e4m3) (harg1 : arg1.IsWhole) (arg2 : Memref sig .tc .vmem S8x1024 .f32) (harg2 : arg2.IsWhole) (arg3 : Memref sig .tc .vmem S1x1024x768 .bf16) (harg3 : arg3.IsWhole) (arg4 : Memref sig .tc .vmem S1x768x1024 .fp8e5m2) (harg4 : arg4.IsWhole) (arg5 : Memref sig .tc .vmem S1x8x768 .f32) (harg5 : arg5.IsWhole) (arg6 : Memref sig .tc .vmem S1x768x1024 .fp8e5m2) (harg6 : arg6.IsWhole) (arg7 : Memref sig .tc .vmem S1x8x768 .f32) (harg7 : arg7.IsWhole) (arg8 : Memref sig .tc .vmem S8x768 .f32) (harg8 : arg8.IsWhole) (arg9 : Memref sig .tc .vmem S1x1024x768 .bf16) (harg9 : arg9.IsWhole) (arg10 : Memref sig .tc .vmem S3x8x768 .f32) (harg10 : arg10.IsWhole) (arg11 : Memref sig .tc .vmem S1x3x8x768 .f32) (harg11 : arg11.IsWhole) (arg12 : Memref sig .tc .vmem S1024x768 .f32) (harg12 : arg12.IsWhole) (arg13 : Memref sig .tc .vmem S1024x768 .bf16) (harg13 : arg13.IsWhole) (arg14 : Memref sig .tc .vmem S1024x768 .bf16) (harg14 : arg14.IsWhole)
    (x0 : Vec F S1x1024x768 .fp8e4m3) (x1 : Vec F S8x1024 .f32) (x2 : Vec F S1x1024x768 .bf16) (x3 : Vec F S1x768x1024 .fp8e5m2) (x4 : Vec F S1x8x768 .f32) (x5 : Vec F S1x768x1024 .fp8e5m2) (x6 : Vec F S1x8x768 .f32) (x7 : Vec F S8x768 .f32) (y : S1x3x8x768.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1, y ∈ pc.1.set :=
  View.cover_of_tiledBy (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1 ![1, 1, 1, 128] (by sl_kernel_rfl) y

/-- What the run leaves in output 10's staging buffer: its pieces read back over junk. -/
def out0_A_10 (c : Dev nD) (i : grid0.Coords) (arg1 : Memref sig .tc .vmem S1x1024x768 .fp8e4m3) (harg1 : arg1.IsWhole) (arg2 : Memref sig .tc .vmem S8x1024 .f32) (harg2 : arg2.IsWhole) (arg3 : Memref sig .tc .vmem S1x1024x768 .bf16) (harg3 : arg3.IsWhole) (arg4 : Memref sig .tc .vmem S1x768x1024 .fp8e5m2) (harg4 : arg4.IsWhole) (arg5 : Memref sig .tc .vmem S1x8x768 .f32) (harg5 : arg5.IsWhole) (arg6 : Memref sig .tc .vmem S1x768x1024 .fp8e5m2) (harg6 : arg6.IsWhole) (arg7 : Memref sig .tc .vmem S1x8x768 .f32) (harg7 : arg7.IsWhole) (arg8 : Memref sig .tc .vmem S8x768 .f32) (harg8 : arg8.IsWhole) (arg9 : Memref sig .tc .vmem S1x1024x768 .bf16) (harg9 : arg9.IsWhole) (arg10 : Memref sig .tc .vmem S3x8x768 .f32) (harg10 : arg10.IsWhole) (arg11 : Memref sig .tc .vmem S1x3x8x768 .f32) (harg11 : arg11.IsWhole) (arg12 : Memref sig .tc .vmem S1024x768 .f32) (harg12 : arg12.IsWhole) (arg13 : Memref sig .tc .vmem S1024x768 .bf16) (harg13 : arg13.IsWhole) (arg14 : Memref sig .tc .vmem S1024x768 .bf16) (harg14 : arg14.IsWhole)
    (x0 : Vec F S1x1024x768 .fp8e4m3) (x1 : Vec F S8x1024 .f32) (x2 : Vec F S1x1024x768 .bf16) (x3 : Vec F S1x768x1024 .fp8e5m2) (x4 : Vec F S1x8x768 .f32) (x5 : Vec F S1x768x1024 .fp8e5m2) (x6 : Vec F S1x8x768 .f32) (x7 : Vec F S8x768 .f32) : Vec F S1x3x8x768 .f32 :=
  VO0_10.read (Elt F) (VO0_10.writes (Elt F) VO0_10.junk (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1)

/-! ## What the outputs hold after each point -/

/-- What the outputs' staging buffers hold after the body at point `t` (as a tuple, in window order): the run's contents at
    the point's memrefs and input blocks. -/
def outsAt0 (c : Dev nD) (t : Fin cfg0.N) : Vec F S1x1024x768 .bf16 × (Vec F S3x8x768 .f32 → Vec F S3x8x768 .f32) × Vec F S1x3x8x768 .f32 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, h⟩ => Pipeline.Dat.unnamed (cfg := cfg0) ⟨9, h⟩ t
    | ⟨10, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = (outsAt0 m c t).1 := by dsimp only [dats]
/-- What the body leaves in window 10. -/
theorem after0_10 (c : Dev nD) (t : Fin cfg0.N) : (dats m 0 c).after 10 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1's buffer holds before the body: its block. -/
theorem before0_1 (c : Dev nD) (t : Fin cfg0.N) (d) : (dats m 0 c).before 1 t d = iblk m c 1 t :=
  before0_1_of m (dats m 0 c) (A_eq m c 1) (after0_1 m c) t d
/-- What window 2's buffer holds before the body: its block. -/
theorem before0_2 (c : Dev nD) (t : Fin cfg0.N) (d) : (dats m 0 c).before 2 t d = iblk m c 2 t :=
  before0_2_of m (dats m 0 c) (A_eq m c 2) (after0_2 m c) t d
/-- What window 3's buffer holds before the body: its block. -/
theorem before0_3 (c : Dev nD) (t : Fin cfg0.N) (d) : (dats m 0 c).before 3 t d = iblk m c 3 t :=
  before0_3_of m (dats m 0 c) (A_eq m c 3) (after0_3 m c) t d
/-- What window 4's buffer holds before the body: its block. -/
theorem before0_4 (c : Dev nD) (t : Fin cfg0.N) (d) : (dats m 0 c).before 4 t d = iblk m c 4 t :=
  before0_4_of m (dats m 0 c) (A_eq m c 4) (after0_4 m c) t d
/-- What window 5's buffer holds before the body: its block. -/
theorem before0_5 (c : Dev nD) (t : Fin cfg0.N) (d) : (dats m 0 c).before 5 t d = iblk m c 5 t :=
  before0_5_of m (dats m 0 c) (A_eq m c 5) (after0_5 m c) t d
/-- What window 6's buffer holds before the body: its block. -/
theorem before0_6 (c : Dev nD) (t : Fin cfg0.N) (d) : (dats m 0 c).before 6 t d = iblk m c 6 t :=
  before0_6_of m (dats m 0 c) (A_eq m c 6) (after0_6 m c) t d
/-- What window 7's buffer holds before the body: its block. -/
theorem before0_7 (c : Dev nD) (t : Fin cfg0.N) (d) : (dats m 0 c).before 7 t d = iblk m c 7 t :=
  before0_7_of m (dats m 0 c) (A_eq m c 7) (after0_7 m c) t d

/-- The buffers of point `t` and the blocks of the inputs there. -/
def bufs (c : Dev nD) (t : Fin cfg0.N) : Stages.Bufs F :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, scM0_0, Memref.isWhole_whole _, scM0_1, Memref.isWhole_whole _, scM0_2, Memref.isWhole_whole _, iblk m c 0 t, iblk m c 1 t, iblk m c 2 t, iblk m c 3 t, iblk m c 4 t, iblk m c 5 t, iblk m c 6 t, iblk m c 7 t⟩

/-- The grid point's one coordinate is its number. -/
theorem coords_val (t : Fin cfg0.N) : (grid0.coords t 0).val = t.val := by
  exact (by decide +kernel : ∀ t : Fin cfg0.N, (grid0.coords t 0).val = t.val) t

/-- The run's block of per-sample sums: what it found, with three masked planes stored. -/
theorem outs9 (c : Dev nD) (t : Fin cfg0.N) (d : Vec F S3x8x768 .f32) : (outsAt0 m c t).2.1 d = Stages.left9 (grid0.coords t) (bufs m c t) d :=
  Stages.run_W9 (grid0.coords t) (bufs m c t) c d

/-- In its own row a point leaves the same whatever it found. -/
theorem row_own (c : Dev nD) (s : Fin cfg0.N) (Y d : Vec F S3x8x768 .f32) (y : S3x8x768.Idx) (hy : (y 1).val = s.val % 8) :
    (outsAt0 m c s).2.1 Y y = (outsAt0 m c s).2.1 d y := by
  obtain ⟨q, r, k, rfl⟩ : ∃ q r k, y = ValueIdx.ix3 q r k := ⟨y 0, y 1, y 2, ValueIdx.eq_ix3 y⟩
  have hm := (Stages.mine_eq (grid0.coords s) r k).mpr (by rw [coords_val]; exact hy)
  rw [outs9, outs9, Stages.left9_apply, Stages.left9_apply, if_pos hm, if_pos hm]

/-- Outside its own row a point leaves what it found. -/
theorem row_other (c : Dev nD) (t : Fin cfg0.N) (Y : Vec F S3x8x768 .f32) (y : S3x8x768.Idx) (hy : (y 1).val ≠ t.val % 8) :
    (outsAt0 m c t).2.1 Y y = Y y := by
  obtain ⟨q, r, k, rfl⟩ : ∃ q r k, y = ValueIdx.ix3 q r k := ⟨y 0, y 1, y 2, ValueIdx.eq_ix3 y⟩
  have hm := mt (Stages.mine_eq (grid0.coords t) r k).mp (by rw [coords_val]; exact hy)
  rw [outs9, Stages.left9_apply, if_neg hm]

/-- Output 8's pieces over any contents read back as the block the point leaves. -/
theorem leaves8 (c : Dev nD) (t : Fin cfg0.N) (e) : (ms0_8 t).view.read (Elt F) ((ms0_8 t).view.writes (Elt F) e (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)).1) = (outsAt0 m c t).1 := by
  have h := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
  have e1 : (outsAt0 m c t).1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) := by sl_kernel_rfl
  rw [e1]
  unfold out0_A_8
  generalize (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)).1 = L at h ⊢
  exact View.read_writes_of_cover (ms0_8 t).view e VO0_8 VO0_8.junk L h

/-- Output 10's pieces over any contents read back as the block the point leaves. -/
theorem leaves10 (c : Dev nD) (t : Fin cfg0.N) (e) : (ms0_10 t).view.read (Elt F) ((ms0_10 t).view.writes (Elt F) e (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)).2.2.1) = (outsAt0 m c t).2.2 := by
  have h := cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
  have e1 : (outsAt0 m c t).2.2 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) := by sl_kernel_rfl
  rw [e1]
  unfold out0_A_10
  generalize (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)).2.2.1 = L at h ⊢
  exact View.read_writes_of_cover (ms0_10 t).view e VO0_10 VO0_10.junk L h

/-! ## The block of per-sample sums -/

/-- The windows held to a predicate rather than to exact contents: the block of per-sample sums, which stays in its staging buffer for
    eight grid points, one row written at each. -/
def fgt0 : Fin 11 → Bool := fun w => w.val == 9

/-- What the block of per-sample sums holds after point `t`: the row of each point of `t`'s group of eight up to `t`, as that point's
    run writes it, whatever that run found in the block. -/
def Rl9 (c : Dev nD) (t : Fin cfg0.N) (X : Vec F S3x8x768 .f32) : Prop :=
  ∀ s : Fin cfg0.N, s.val ≤ t.val → s.val / 8 = t.val / 8 → ∀ (d : Vec F S3x8x768 .f32) (y : S3x8x768.Idx), (y 1).val = s.val % 8 → X y = (outsAt0 m c s).2.1 d y

/-- The predicate of each window: `Rl9` of the block of per-sample sums, nothing of the others. -/
def Rl0 (c : Dev nD) : (w : Fin cfg0.W) → Fin cfg0.N → ((cfg0.win w).block.Idx → Elt F (cfg0.win w).elt) → Prop := fun w => match w with
  | ⟨9, _⟩ => Rl9 m c
  | _ => fun _ _ => True

/-- The proof data of core `c` with the block of per-sample sums held to `Rl9`. -/
def rdat0 (c : Dev nD) := (dats m 0 c).toRRel fgt0 (Rl0 m c)

/-- What a point finds in the block of sums, after the first of its group, is what the point before left. -/
theorem finds9 (c : Dev nD) (t t' : Fin cfg0.N) (Y : Vec F S3x8x768 .f32) (h : (rdat0 m c).Finds 9 t Y) (h8 : t.val % 8 ≠ 0) (ht : t'.val + 1 = t.val) : Rl9 m c t' Y := by
  rw [Pipeline.RDat.finds_of_pos _ (by rfl) (by omega)] at h
  have e : (⟨t.val - 1, Nat.lt_of_le_of_lt (Nat.sub_le _ _) t.isLt⟩ : Fin cfg0.N) = t' := Fin.ext (by show t.val - 1 = t'.val; omega)
  rcases h with h | h
  · rw [e] at h
    have := (flush0_9 t').mp h; omega
  · rw [e] at h
    exact Pipeline.Dat.toRRel_leaves (dats m 0 c) (w := 9) (fgt := fgt0) (Rl := Rl0 m c) rfl h

/-- One point's step: if the run at `t` replaces row `t mod 8` whatever was there and keeps the other rows, the predicate passes from
    what the run found to what it leaves. -/
theorem step9 (c : Dev nD) (t : Fin cfg0.N) (Y : Vec F S3x8x768 .f32) (h : (rdat0 m c).Finds 9 t Y) : Rl9 m c t ((outsAt0 m c t).2.1 Y) := by
  intro s hs hg d y hy
  by_cases hst : s.val = t.val
  · obtain rfl := Fin.ext hst
    exact row_own m c s Y d y hy
  · have hlt : t.val - 1 < cfg0.N := by have := t.isLt; omega
    have := finds9 m c t ⟨t.val - 1, hlt⟩ Y h (by omega) (by show t.val - 1 + 1 = t.val; omega) s (by show s.val ≤ t.val - 1; omega) (by show s.val / 8 = (t.val - 1) / 8; omega) d y hy
    rw [row_other m c t Y y (by omega), this]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ Y, ⌜(rdat0 m c).Finds 9 t Y⌝ ∗ owns (c : Thread nD τ) (ms0_9 t) fullShare Y)
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ X, ⌜Rl9 m c t X⌝ ∗ owns (c : Thread nD τ) (ms0_9 t) fullShare X)
    ∗ owns (c : Thread nD τ) (ms0_10 t) fullShare ((dats m 0 c).after 10 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_10]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, %hd9, H9⟩, ⟨%d10, H10⟩⟩
  iapply ((bodyRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2.2.2.2.2 d9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [HS0]; · iexact HS0
  isplitl [HS1]; · iexact HS1
  isplitl [HS2]; · iexact HS2
  iintro ⟨H0, H1, H2, H3, H4, H5, H6, H7, ⟨%e8, H8⟩, H9, ⟨%e10, H10⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact leaves8 m c t e8
  isplitl [H9]
  · iexists _; isplitr
    swap; · iexact H9
    ipureintro; exact step9 m c t d9 hd9
  unfold owns; iexists _; isplitr
  swap; · iexact H10
  ipureintro; exact leaves10 m c t e10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationRel (dats (F := F) m 0 c) (defs₀ (F := F)) Variants.none () Set.univ fgt0 (Rl0 m c) := fun t => by
  rw [bigSep_W0, bigSep_W0, defs₀_row]
  exact triple_restated (sound_body m c t) rfl .rfl fun _ => .rfl

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c))⟩) h

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (rdat0 m) (V m)) r ∧ r.2.sem = fun _ => 0) :=
  Pipeline.RDat.θ_run_frame (Q' := _) cfgs (0 : Fin 1) launch0 defs₀ Variants.none (rdat0 m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.RDat.FramePost (cfgs 0) (rdat0 m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_rel m ρ (rdat0 m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.Math.lean ====
/- The algebra of the layer norm's backward pass over the real numbers: the formulas on the centred and scaled activations against the
   formulas on the codes, their sums and their sums of squares. -/
module

public import Idealize.ShloMosaic.PureOps.Ideal

@[expose] public section

noncomputable section

namespace Cert.Math

open Finset

/-- One token of the layer norm: `X` its codes and `S` their scale, `G` the gradient arriving at the normalised activations, `e` the
    constant under the root. -/
structure Token where
  X : Fin 768 → ℝ
  G : Fin 768 → ℝ
  S : ℝ
  e : ℝ

namespace Token

variable (t : Token)

/-! ## The plain formulas -/

/-- The mean of the scaled activations. -/
def mu : ℝ := (∑ k, t.X k * t.S) / 768

/-- The variance under the root, as the mean square of the centred activations. -/
def v : ℝ := (∑ k, (t.X k * t.S - t.mu) * (t.X k * t.S - t.mu)) / 768 + t.e

/-- The reciprocal of the standard deviation. -/
def rstd : ℝ := (√t.v)⁻¹

/-- The normalised activation. -/
def xhat (k : Fin 768) : ℝ := (t.X k * t.S - t.mu) * t.rstd

/-- The mean of the arriving gradient. -/
def meanG : ℝ := (∑ k, t.G k) / 768

/-- The mean of the arriving gradient against the normalised activations. -/
def meanGX : ℝ := (∑ k, t.G k * t.xhat k) / 768

/-! ## The formulas on the codes -/

/-- The mean of the codes. -/
def m : ℝ := (∑ k, t.X k) * (1 / 768)

/-- The variance of the codes, as the mean square less the squared mean, no less than zero. -/
def var : ℝ := max ((∑ k, t.X k * t.X k) * (1 / 768) - t.m * t.m) 0

/-- What is under the root, from the variance of the codes. -/
def v' : ℝ := t.S * t.S * t.var + t.e

/-- The slope of the normalised activation in the code. -/
def a : ℝ := t.S * (√t.v')⁻¹

/-- The normalised activation of the code zero. -/
def b : ℝ := -t.m * t.a

/-- The mean of the arriving gradient against the normalised activations, from its sums against one and against the codes. -/
def meanGX' : ℝ := (t.a * (∑ k, t.G k * t.X k) + t.b * ∑ k, t.G k) * (1 / 768)

/-! ## They agree -/

/-- The mean of the scaled token is the scale times the mean of its codes. -/
theorem mu_eq : t.mu = t.S * t.m := by
  unfold mu m; rw [← sum_mul]; ring

/-- The mean square of the centred codes is the mean square less the squared mean. -/
theorem centred : (∑ k, (t.X k - t.m) * (t.X k - t.m)) * (1 / 768) = (∑ k, t.X k * t.X k) * (1 / 768) - t.m * t.m := by
  have h : ∀ k, (t.X k - t.m) * (t.X k - t.m) = t.X k * t.X k - 2 * t.m * t.X k + t.m * t.m := fun k => by ring
  simp only [h, sum_add_distrib, sum_sub_distrib, ← mul_sum, sum_const, card_univ, Fintype.card_fin, nsmul_eq_mul]
  have hm : (∑ k, t.X k) = 768 * t.m := by unfold m; ring
  rw [hm]; push_cast; ring

/-- The variance of the codes is not negative, so the maximum with zero changes nothing. -/
theorem var_eq : t.var = (∑ k, t.X k * t.X k) * (1 / 768) - t.m * t.m := by
  unfold var; apply max_eq_left; rw [← centred]
  exact mul_nonneg (sum_nonneg fun k _ => mul_self_nonneg _) (by norm_num)

/-- The variance from the moments of the codes is the variance. -/
theorem v'_eq : t.v' = t.v := by
  unfold v' v; rw [var_eq, ← centred, mu_eq]
  have h : ∀ k, (t.X k * t.S - t.S * t.m) * (t.X k * t.S - t.S * t.m) = t.S * t.S * ((t.X k - t.m) * (t.X k - t.m)) := fun k => by ring
  simp only [h, ← mul_sum]; ring

/-- The variance with its positive constant is positive. -/
theorem v_pos (he : 0 < t.e) : 0 < t.v := by
  unfold v; have : 0 ≤ ∑ k, (t.X k * t.S - t.mu) * (t.X k * t.S - t.mu) := sum_nonneg fun k _ => mul_self_nonneg _
  positivity

/-- The kernel's slope is the scale over the standard deviation. -/
theorem a_eq : t.a = t.S * t.rstd := by unfold a rstd; rw [v'_eq]

/-- A normalised activation is an affine function of its code. -/
theorem xhat_eq (k : Fin 768) : t.xhat k = t.a * t.X k + t.b := by
  unfold xhat b; rw [a_eq, mu_eq]; ring

/-- The mean of gradient times normalised activation, from the moments with the codes. -/
theorem meanGX_eq : t.meanGX' = t.meanGX := by
  unfold meanGX meanGX'
  have h : ∀ k, t.G k * t.xhat k = t.a * (t.G k * t.X k) + t.b * t.G k := fun k => by rw [xhat_eq]; ring
  simp only [h, sum_add_distrib, ← mul_sum]; ring

/-- The gradient to one activation: the plain formula is linear in the code, with the slope and the offset that the sums give. -/
theorem dx_eq (k : Fin 768) (dy : ℝ) :
    (dy + t.G k * (√t.v')⁻¹) + (t.X k * (-(√t.v')⁻¹ * t.a * t.meanGX') + -(√t.v')⁻¹ * ((∑ k, t.G k) * (1 / 768) + t.b * t.meanGX'))
      = dy + t.rstd * (t.G k - t.meanG - t.xhat k * t.meanGX) := by
  rw [meanGX_eq, xhat_eq, v'_eq, ← rstd]; unfold meanG; ring

end Token

/-- The gradient to a modulation scale over one block: the sums against the codes and against one give the sum against the normalised
    activations. -/
theorem dscale_eq {ι : Type} (s : Finset ι) (sh : ℝ) (D X a b : ι → ℝ) :
    sh * ((∑ l ∈ s, a l * (D l * X l)) + ∑ l ∈ s, b l * D l) = ∑ l ∈ s, D l * sh * (a l * X l + b l) := by
  rw [← sum_add_distrib, mul_sum]; exact sum_congr rfl fun l _ => by ring

end Cert.Math

end
-- ==== Proof.Consts.lean ====
/- The float constants of the two programs as the real numbers they denote, and how sums of real numbers stand among the extended reals. -/
module

public import Idealize.ShloMosaic.PureOps.Ideal

@[expose] public section

noncomputable section

namespace Cert.Consts

open Idealize.ShloMosaic

/-- The constant under the root: the single-precision number nearest to one millionth. -/
def eps : ℝ := 8796093 / 2 ^ 43

/-- The constant added to the variance is positive. -/
theorem eps_pos : 0 < eps := by unfold eps; norm_num

/-- The word of zero, in 32 bits. -/
theorem ofBits_zero : Ideal.ofBits .f32 0x00000000#32 = ((0 : ℝ) : EReal) := by
  simp [Ideal.ofBits, Ideal.ieee]

/-- The word of zero, in 16 bits. -/
theorem ofBits_zero_bf16 : Ideal.ofBits .bf16 0x0000#16 = ((0 : ℝ) : EReal) := by
  simp [Ideal.ofBits, Ideal.ieee]

/-- The word of one, in 32 bits. -/
theorem ofBits_one : Ideal.ofBits .f32 0x3F800000#32 = ((1 : ℝ) : EReal) := by
  simp [Ideal.ofBits, Ideal.ieee, -EReal.coe_mul]; norm_num

/-- The word of one, in 16 bits. -/
theorem ofBits_one_bf16 : Ideal.ofBits .bf16 0x3F80#16 = ((1 : ℝ) : EReal) := by
  simp [Ideal.ofBits, Ideal.ieee, -EReal.coe_mul]; norm_num

/-- The word of the number of channels. -/
theorem ofBits_768 : Ideal.ofBits .f32 0x44400000#32 = ((768 : ℝ) : EReal) := by
  simp [Ideal.ofBits, Ideal.ieee, -EReal.coe_mul]; norm_num

/-- The word of the constant added to the variance. -/
theorem ofBits_eps : Ideal.ofBits .f32 0x358637BD#32 = ((eps : ℝ) : EReal) := by
  unfold eps
  simp [Ideal.ofBits, Ideal.ieee, -EReal.coe_mul]; norm_num

/-- A quotient by 768 of a real number. -/
theorem div_768 (r : ℝ) : Ideal.div (r : EReal) ((768 : ℝ) : EReal) = ((r / 768 : ℝ) : EReal) := by
  rw [Ideal.div_coe (by norm_num : (768 : ℝ) ≠ 0), ← EReal.coe_mul]; congr 1; ring

/-- A sum of real numbers, taken among the extended reals, is their sum. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The reciprocal root of a positive real number. -/
theorem rsqrt_pos {r : ℝ} (h : 0 < r) : Ideal.rsqrt (r : EReal) = (((√r)⁻¹ : ℝ) : EReal) := by
  rw [Ideal.rsqrt_coe, if_neg (by linarith), if_neg (by linarith)]

end Cert.Consts

end
-- ==== Proof.Model.lean ====
/- The problem over the real numbers: the arguments as real arrays and the three results as formulas of them. -/
module

public import proofs.«01_k».proof.Proof.Math
public import proofs.«01_k».proof.Proof.Consts

@[expose] public section

noncomputable section

namespace Cert.Model

open Finset

/-- The arguments, as real numbers: the codes and scales of the activations, the branch's output, the codes and scales of the two
    gradients (a scale to a channel and a block of 128 tokens), and the modulation. -/
structure Inputs where
  x : Fin 112 → Fin 1024 → Fin 768 → ℝ
  xs : Fin 112 → Fin 1024 → ℝ
  f : Fin 112 → Fin 1024 → Fin 768 → ℝ
  dy : Fin 112 → Fin 768 → Fin 1024 → ℝ
  sy : Fin 112 → Fin 768 → Fin 8 → ℝ
  dh : Fin 112 → Fin 768 → Fin 1024 → ℝ
  sh : Fin 112 → Fin 768 → Fin 8 → ℝ
  mod : Fin 112 → Fin 768 → ℝ

/-- The block of a token. -/
def blk (n : Fin 1024) : Fin 8 := ⟨n.val / 128, by omega⟩

/-- Token `l` of block `j`. -/
def tok (j : Fin 8) (l : Fin 128) : Fin 1024 := ⟨j.val * 128 + l.val, by omega⟩

/-- Token `l` of block `j` lies in block `j`. -/
theorem blk_tok (j : Fin 8) (l : Fin 128) : blk (tok j l) = j := by
  apply Fin.ext; show (j.val * 128 + l.val) / 128 = j.val; omega

namespace Inputs

variable (I : Inputs)

/-- Token `n` of sample `b`, with the gradient that reaches its normalised activations. -/
def token (b : Fin 112) (n : Fin 1024) : Math.Token where
  X := I.x b n
  G k := I.dh b k n * I.sh b k (blk n) * (1 + I.mod b k)
  S := I.xs b n
  e := Consts.eps

/-- Each token's variance with its constant is positive. -/
theorem v_pos (b : Fin 112) (n : Fin 1024) : 0 < (I.token b n).v := (I.token b n).v_pos Consts.eps_pos

/-- The gradient to the activations. -/
def dx (b : Fin 112) (n : Fin 1024) (k : Fin 768) : ℝ :=
  I.dy b k n * I.sy b k (blk n) + (I.token b n).rstd * ((I.token b n).G k - (I.token b n).meanG - (I.token b n).xhat k * (I.token b n).meanGX)

/-- The gradient to the shift over one block of tokens. -/
def dshift (b : Fin 112) (j : Fin 8) (k : Fin 768) : ℝ := ∑ l : Fin 128, I.dh b k (tok j l) * I.sh b k j

/-- The gradient to the scale over one block of tokens. -/
def dscale (b : Fin 112) (j : Fin 8) (k : Fin 768) : ℝ := ∑ l : Fin 128, I.dh b k (tok j l) * I.sh b k j * (I.token b (tok j l)).xhat k

/-- The gradient to the gate over one block of tokens. -/
def dgate (b : Fin 112) (j : Fin 8) (k : Fin 768) : ℝ := ∑ l : Fin 128, I.dy b k (tok j l) * I.sy b k j * I.f b (tok j l) k

/-- The three gradients over one block of tokens. -/
def part (q : Fin 3) (b : Fin 112) (j : Fin 8) (k : Fin 768) : ℝ :=
  if q.val = 0 then I.dshift b j k else if q.val = 1 then I.dscale b j k else I.dgate b j k

/-- The three gradients over all tokens of a sample. -/
def dmod (q : Fin 3) (b : Fin 112) (k : Fin 768) : ℝ := ∑ j : Fin 8, I.part q b j k

end Inputs

end Cert.Model

end
-- ==== Proof.Weights.lean ====
/- The stages of the kernel over the real numbers: selecting rows and blocks, the scales and the weights. -/
module

public import proofs.«01_k».proof.Proof.Rows
public import proofs.«01_k».proof.Proof.Model

@[expose] public section

set_option maxRecDepth 16384

noncomputable section

namespace Cert.Stages

open Idealize.ShloMosaic Idealize.ShloMosaic.TcCoe Cert.KernelIdeal Cert.KernelIdeal.Gen Cert.Model Cert.Consts

/-- The blocks of one grid point hold the real arrays of `I` at sample `b`. -/
structure Holds (I : Inputs) (b : Fin 112) (i : grid0.Coords) (B : Bufs Ideal) : Prop where
  at_b : (i 0).val = b.val
  x : ∀ n k, B.x0 (ix3 0 n k) = ((I.x b n k : ℝ) : EReal)
  xs : ∀ (r : Fin 8) n, r.val = b.val % 8 → B.x1 (ix2 r n) = ((I.xs b n : ℝ) : EReal)
  f : ∀ n k, B.x2 (ix3 0 n k) = ((I.f b n k : ℝ) : EReal)
  dy : ∀ k n, B.x3 (ix3 0 k n) = ((I.dy b k n : ℝ) : EReal)
  sy : ∀ j k, B.x4 (ix3 0 j k) = ((I.sy b k j : ℝ) : EReal)
  dh : ∀ k n, B.x5 (ix3 0 k n) = ((I.dh b k n : ℝ) : EReal)
  sh : ∀ j k, B.x6 (ix3 0 j k) = ((I.sh b k j : ℝ) : EReal)
  mod : ∀ (r : Fin 8) k, r.val = b.val % 8 → B.x7 (ix2 r k) = ((I.mod b k : ℝ) : EReal)

variable {I : Inputs} {b : Fin 112} {i : grid0.Coords} {B : Bufs Ideal}

/-- A load from a whole buffer, entry by entry. -/
theorem load {S : Shape} {e : EltTy} (m : Memref sig .tc .vmem S e) (h : m.IsWhole) (x : S.Idx → Elt Ideal e) (off size : Fin S.rank → ℕ) (inb)
    (y : (Rect.unit off size inb).shape.Idx) (j : S.Idx) (hj : ∀ a, (j a).val = off a + (y a).val) :
    m.view.readAt (Elt Ideal) (Rect.unit off size inb).toLoadRect (h.unread x) y = x j := by
  rw [View.readAt_eq_ld, Memref.IsWhole.read_unread]
  exact View.ld_unit_apply_of x off size inb y j hj

/-- The same of a matrix. -/
theorem load2 {n0 n1 : ℕ} {e : EltTy} (m : Memref sig .tc .vmem ⟨2, ![n0, n1]⟩ e) (h : m.IsWhole) (x : (⟨2, ![n0, n1]⟩ : Shape).Idx → Elt Ideal e) (o0 o1 z0 z1 : ℕ) (inb)
    (y0 : Fin z0) (y1 : Fin z1) (j0 : Fin n0) (j1 : Fin n1) (h0 : j0.val = o0 + y0.val) (h1 : j1.val = o1 + y1.val) :
    m.view.readAt (Elt Ideal) (Rect.unit (s := ⟨2, ![n0, n1]⟩) ![o0, o1] ![z0, z1] inb).toLoadRect (h.unread x) (ix2 y0 y1) = x (ix2 j0 j1) :=
  load m h x _ _ inb _ _ fun a => match a with
    | ⟨0, _⟩ => h0
    | ⟨1, _⟩ => h1

/-- The same of three axes. -/
theorem load3 {n0 n1 n2 : ℕ} {e : EltTy} (m : Memref sig .tc .vmem ⟨3, ![n0, n1, n2]⟩ e) (h : m.IsWhole) (x : (⟨3, ![n0, n1, n2]⟩ : Shape).Idx → Elt Ideal e) (o0 o1 o2 z0 z1 z2 : ℕ) (inb)
    (y0 : Fin z0) (y1 : Fin z1) (y2 : Fin z2) (j0 : Fin n0) (j1 : Fin n1) (j2 : Fin n2) (h0 : j0.val = o0 + y0.val) (h1 : j1.val = o1 + y1.val) (h2 : j2.val = o2 + y2.val) :
    m.view.readAt (Elt Ideal) (Rect.unit (s := ⟨3, ![n0, n1, n2]⟩) ![o0, o1, o2] ![z0, z1, z2] inb).toLoadRect (h.unread x) (ix3 y0 y1 y2) = x (ix3 j0 j1 j2) :=
  load m h x _ _ inb _ _ fun a => match a with
    | ⟨0, _⟩ => h0
    | ⟨1, _⟩ => h1
    | ⟨2, _⟩ => h2

/-- A choice by a row number. -/
theorem select_row {α : Type} (r : Fin 8) (k : ℕ) (x y : α) (hk : k < 8) :
    Scalar.select (IntOp.cmpi .eq (BitVec.ofNat 32 r.val) (BitVec.ofNat 32 k)) x y = if r.val = k then x else y := by
  have h : IntOp.cmpi .eq (BitVec.ofNat 32 r.val) (BitVec.ofNat 32 k) = if r.val = k then 1#1 else 0#1 :=
    (by decide +kernel : ∀ a b : Fin 8, IntOp.cmpi .eq (BitVec.ofNat 32 a.val) (BitVec.ofNat 32 b.val) = if a.val = b.val then 1#1 else 0#1) r ⟨k, hk⟩
  rw [h]
  split <;> rfl

/-- A choice by the sample's row. -/
theorem select_b8 {α : Type} (i : grid0.Coords) (r : Fin 8) (x y : α) :
    Scalar.select (IntOp.cmpi .eq (BitVec.ofNat 32 r.val) (b8 i)) x y = if r.val = (i 0).val % 8 then x else y := by
  rw [b8_eq]; exact select_row r _ x y (Nat.mod_lt _ (by decide))

/-- The sum that keeps one row of eight. -/
theorem sum_row (n : ℕ) (f : Fin 8 → EReal) (x : ℝ) (h : ∀ r : Fin 8, r.val = n % 8 → f r = (x : EReal)) :
    (∑ r : Fin 8, if r.val = n % 8 then f r else 0) = (x : EReal) := by
  have e : ∀ r : Fin 8, (if r.val = n % 8 then f r else 0) = if r = ⟨n % 8, Nat.mod_lt _ (by decide)⟩ then (x : EReal) else 0 := fun r => by
    by_cases hr : r.val = n % 8
    · rw [if_pos hr, if_pos (Fin.ext hr), h r hr]
    · rw [if_neg hr, if_neg fun e => hr (congrArg Fin.val e)]
  simp only [e, Finset.sum_ite_eq', Finset.mem_univ, if_true]

/-- The `j`-th tile of eight supplies row `j`. -/
theorem pick_apply (p : Fin 8 → FVec Ideal S8x128 .f32) (r : Fin 8) (l : Fin 128) : pick p (ix2 r l) = p r (ix2 r l) := by
  pointwise [pick, at', row]
  simp only [select_row _ _ _ _ (by decide : 0 < 8), select_row _ _ _ _ (by decide : 1 < 8), select_row _ _ _ _ (by decide : 2 < 8), select_row _ _ _ _ (by decide : 3 < 8),
    select_row _ _ _ _ (by decide : 4 < 8), select_row _ _ _ _ (by decide : 5 < 8), select_row _ _ _ _ (by decide : 6 < 8), select_row _ _ _ _ (by decide : 7 < 8)]
  fin_cases r <;> rfl

/-- A block of columns, entry by entry. -/
theorem lane_apply (v : FVec Ideal S8x1024 .f32) (j r : Fin 8) (l : Fin 128) : lane v j (ix2 r l) = v (ix2 r (tok j l)) := by
  pointwise [lane]
  exact congrArg v (congrArg (ix2 r) (Fin.ext (by show 128 * j.val + l.val = j.val * 128 + l.val; omega)))

/-- A tile along the diagonal blocks. -/
theorem blockDiag_apply (v : FVec Ideal S8x128 .f32) (j r : Fin 8) (l : Fin 128) : blockDiag v (ix2 r (tok j l)) = if r = j then v (ix2 r l) else ((0 : ℝ) : EReal) := by
  pointwise [blockDiag, at', row]
  simp only [select_row _ _ _ _ (by decide : 0 < 8), select_row _ _ _ _ (by decide : 1 < 8), select_row _ _ _ _ (by decide : 2 < 8), select_row _ _ _ _ (by decide : 3 < 8),
    select_row _ _ _ _ (by decide : 4 < 8), select_row _ _ _ _ (by decide : 5 < 8), select_row _ _ _ _ (by decide : 6 < 8), select_row _ _ _ _ (by decide : 7 < 8)]
  have hl := l.isLt
  have hj : (tok j l).val = j.val * 128 + l.val := rfl
  have e : ∀ (n : ℕ) (h : n < 128), n = l.val → v (ix2 r ⟨n, h⟩) = v (ix2 r l) := fun n h hn => congrArg v (congrArg (ix2 r) (Fin.ext hn))
  simp only [Fin.ext_iff]
  have h8 := j.isLt
  rcases (by omega : j.val = 0 ∨ j.val = 1 ∨ j.val = 2 ∨ j.val = 3 ∨ j.val = 4 ∨ j.val = 5 ∨ j.val = 6 ∨ j.val = 7) with h | h | h | h | h | h | h | h <;>
  · rw [h] at hj ⊢
    repeat (first | rw [dif_pos (by omega)] | rw [dif_neg (by omega)])
    rw [e _ _ (by omega)]
    rfl

/-- The narrow format holds every real number here. -/
theorem hi_apply {S : Shape} (v : FVec Ideal S .f32) : hi v = v := rfl

/-- What a real number leaves after its first part is zero. -/
theorem mid_apply {S : Shape} (v : FVec Ideal S .f32) (y : S.Idx) (r : ℝ) (h : v y = (r : EReal)) : mid v y = ((0 : ℝ) : EReal) := by
  show v y - v y = _
  rw [h, ← EReal.coe_sub, sub_self]

/-- What a real number leaves after its first part is zero. -/
theorem lo_apply {S : Shape} (v : FVec Ideal S .f32) (y : S.Idx) (r : ℝ) (h : v y = (r : EReal)) : lo v y = ((0 : ℝ) : EReal) := by
  show (v y - v y) - (v y - v y) = _
  rw [h, ← EReal.coe_sub, sub_self, ← EReal.coe_sub, sub_self]

/-- The scales of the sample's activations. -/
theorem xsRow_apply (H : Holds I b i B) (r : Fin 8) (n : Fin 1024) : xsRow i B (ix2 r n) = ((I.xs b n : ℝ) : EReal) := by
  pointwise [xsRow]
  simp only [select_b8, H.at_b]
  exact sum_row _ _ _ fun r hr => (load2 B.arg2 B.harg2 B.x1 0 0 8 1024 _ r n r n (Nat.zero_add _).symm (Nat.zero_add _).symm).trans (H.xs r n hr)

/-- The scales of the gradient. -/
theorem sh_apply (H : Holds I b i B) (j : Fin 8) (k : Fin 768) : sh B (ix2 j k) = ((I.sh b k j : ℝ) : EReal) := by
  pointwise [sh]
  exact (load3 B.arg7 B.harg7 B.x6 0 0 0 1 8 768 inb_S1x8x768_S1x8x768_0_0_0 0 j k 0 j k (Nat.zero_add _).symm (Nat.zero_add _).symm (Nat.zero_add _).symm).trans (H.sh j k)

/-- The weights. -/
theorem w_apply (H : Holds I b i B) (j : Fin 8) (k : Fin 768) : w i B (ix2 j k) = ((I.sh b k j * (1 + I.mod b k) : ℝ) : EReal) := by
  pointwise [w, mod1]
  simp only [select_b8, H.at_b]
  rw [sum_row _ _ (I.mod b k) fun r hr => (load2 B.arg8 B.harg8 B.x7 0 0 8 768 inb_S8x768_S8x768_0_0 r k r k (Nat.zero_add _).symm (Nat.zero_add _).symm).trans (H.mod r k hr), sh_apply H,
    ← EReal.coe_one, ← EReal.coe_add, ← EReal.coe_mul]

end Cert.Stages
-- ==== Proof.Sums.lean ====
/- The stages of the kernel over the real numbers: the codes brought to the other layout, and the sums over the channels. -/
module

public import proofs.«01_k».proof.Proof.Weights

@[expose] public section

set_option maxRecDepth 16384

noncomputable section

namespace Cert.Stages

open Idealize.ShloMosaic Idealize.ShloMosaic.TcCoe Cert.KernelIdeal Cert.KernelIdeal.Gen Cert.Model Cert.Consts

variable {I : Inputs} {b : Fin 112} {i : grid0.Coords} {B : Bufs Ideal}

/-- A member of the list of pieces is one of the pieces. -/
theorem mem_down {α : Type*} {N : ℕ} (f : Fin N → α) : ∀ (n : ℕ) (h : n ≤ N) (p : α), p ∈ down f n h → ∃ i, p = f i
  | 0, _, _, hp => absurd hp (List.not_mem_nil)
  | n + 1, h, p, hp => by
    rcases List.mem_cons.mp hp with e | e
    · exact ⟨_, e⟩
    · exact mem_down f n _ p e

/-- Every piece is in the list. -/
theorem down_mem {α : Type*} {N : ℕ} (f : Fin N → α) : ∀ (n : ℕ) (h : n ≤ N) (i : Fin N), i.val < n → f i ∈ down f n h
  | n + 1, h, i, hi => by
    by_cases e : i.val = n
    · obtain rfl : i = ⟨n, h⟩ := Fin.ext e
      exact List.mem_cons_self
    · exact List.mem_cons_of_mem _ (down_mem f n _ i (by omega))

/-- The identity matrix. -/
theorem eye_apply (r s : Fin 256) : eye (F := Ideal) (ix2 r s) = ((if r = s then 1 else 0 : ℝ) : EReal) := by
  pointwise [eye]
  rw [(by decide +kernel : ∀ a b : Fin 256, IntOp.cmpi .eq (BitVec.ofNat 32 a.val) (BitVec.ofNat 32 b.val) = if a = b then 1#1 else 0#1) r s]
  split <;> rfl

/-- A tile of codes is transposed by its product with the identity. -/
theorem codeT_apply (v : FVec Ideal S1x256x256 .fp8e5m2) (f : Fin 256 → Fin 256 → ℝ) (h : ∀ r s, v (ix3 0 r s) = ((f r s : ℝ) : EReal)) (r s : Fin 256) :
    codeT v (ix2 r s) = ((f s r : ℝ) : EReal) := by
  pointwise [codeT]
  have e : ∀ x : Fin 256, (eye (F := Ideal) (ix2 r x) : EReal) * v (ix3 0 s x) = if r = x then ((f s r : ℝ) : EReal) else 0 := fun x => by
    rw [eye_apply, h, ← EReal.coe_mul]
    by_cases hx : r = x
    · subst hx; rw [if_pos rfl, if_pos rfl, one_mul]
    · rw [if_neg hx, if_neg hx, zero_mul, EReal.coe_zero]
  refine (Finset.sum_congr rfl fun x _ => e x).trans ?_
  rw [Finset.sum_ite_eq, if_pos (Finset.mem_univ _)]

/-- The weights in parts: the first eight rows are the weights, the others vanish. -/
theorem w3_apply (H : Holds I b i B) (n : Fin 32) (k : Fin 768) :
    w3 i B (ix2 n k) = ((if h : n.val < 8 then I.sh b k ⟨n.val, h⟩ * (1 + I.mod b k) else 0 : ℝ) : EReal) := by
  pointwise [w3]
  have hw := fun (j : Fin 8) => w_apply H j k
  by_cases h : n.val < 8
  · rw [dif_pos h, dif_pos h]
    exact hw _
  · rw [dif_neg h, dif_neg h]
    split
    · exact mid_apply _ _ _ (hw _)
    · split
      · exact lo_apply _ _ _ (hw _)
      · rfl

/-- The sums of the activations' codes. -/
theorem s_apply (H : Holds I b i B) (r : Fin 8) (l : Fin 128) : s B (ix2 r l) = ((∑ k, I.x b (tok r l) k : ℝ) : EReal) := by
  unfold s
  rw [pick_apply, lane_apply]
  pointwise [sAll]
  refine (Finset.sum_congr rfl fun k _ => ?_).trans (coe_sum _ _)
  exact (load3 B.arg1 B.harg1 B.x0 0 0 0 1 1024 768 inb_S1x1024x768_S1x1024x768_0_0_0 0 _ k 0 (tok r l) k (Nat.zero_add _).symm (Nat.zero_add _).symm (Nat.zero_add _).symm).trans (H.x _ _)

/-- A channel from its group of 128 and its place there. -/
def chan (k : Fin 6) (c : Fin 128) : Fin 768 := ⟨128 * k.val + c.val, by omega⟩

/-- A sum over the tokens, block by block. -/
theorem sum_tok {M : Type*} [AddCommMonoid M] (f : Fin 1024 → M) : ∑ n, f n = ∑ j : Fin 8, ∑ l : Fin 128, f (tok j l) := by
  rw [← Finset.sum_product', Finset.univ_product_univ]
  refine (Fintype.sum_equiv (finProdFinEquiv (m := 8) (n := 128)) _ _ fun x => ?_).symm
  exact congrArg f (Fin.ext (by show x.1.val * 128 + x.2.val = x.2.val + 128 * x.1.val; omega))

/-- A sum over the channels, group by group. -/
theorem sum_chan (f : Fin 768 → ℝ) : ∑ k, f k = ∑ c : Fin 128, ∑ k : Fin 6, f (chan k c) := by
  rw [Finset.sum_comm, ← Finset.sum_product', Finset.univ_product_univ]
  refine (Fintype.sum_equiv (finProdFinEquiv (m := 6) (n := 128)) _ _ fun x => ?_).symm
  exact congrArg f (Fin.ext (by show 128 * x.1.val + x.2.val = x.2.val + 128 * x.1.val; omega))

/-- A tile of codes as a matrix. -/
theorem widen_apply (v : FVec Ideal S1x128x128 .fp8e4m3) (l c : Fin 128) :
    (extf .f32 (shapeCast S128x128 v shapeCasts_S1x128x128_S128x128) bitsLt_fp8e4m3_f32 : FVec Ideal S128x128 .f32) (ix2 l c) = v (ix3 0 l c) := by
  pointwise []

/-- A tile of the activations' codes. -/
theorem xSq_apply (H : Holds I b i B) (j : Fin 8) (k : Fin 6) (l c : Fin 128) : xSq B j k (ix2 l c) = ((I.x b (tok j l) (chan k c) : ℝ) : EReal) := by
  refine (widen_apply _ l c).trans ?_
  exact (load3 B.arg1 B.harg1 B.x0 0 (128 * j.val) (128 * k.val) 1 128 128 (inb_sq j k) 0 l c 0 (tok j l) (chan k c) rfl
    (by show j.val * 128 + l.val = 128 * j.val + l.val; omega) rfl).trans (H.x _ _)

/-- Six tiles' squares added up and summed over the columns, repeated on eight rows. -/
def sumSq (X : Fin 6 → FVec Ideal S128x128 .f32) : FVec Ideal S8x128 .f32 :=
  broadcastTo S8x128 (shapeCast S1x128 (shapeCast S1x128 (multiReduction .add [0] S128 (transpose S128x128 [1, 0]
    (addf (addf (addf (addf (addf (mulf (X 0) (X 0)) (mulf (X 1) (X 1))) (mulf (X 2) (X 2)))
      (mulf (X 3) (X 3))) (mulf (X 4) (X 4))) (mulf (X 5) (X 5))) transposes_S128x128_p1_0_S128x128)
    0x00000000#32 reduces_S128x128_S128 (.inl rfl) rfl) shapeCasts_S128_S1x128) shapeCasts_S1x128_S1x128) broadcasts_S1x128_S8x128

/-- Its entries, when the tiles hold real numbers. -/
theorem sumSq_apply (X : Fin 6 → FVec Ideal S128x128 .f32) (f : Fin 6 → Fin 128 → Fin 128 → ℝ) (h : ∀ k l c, X k (ix2 l c) = ((f k l c : ℝ) : EReal)) (r : Fin 8) (l : Fin 128) :
    sumSq X (ix2 r l) = ((∑ c, ∑ k, f k l c * f k l c : ℝ) : EReal) := by
  pointwise [sumSq]
  simp only [h, ← EReal.coe_mul, ← EReal.coe_add, coe_sum]
  simp only [Fin.sum_univ_six]

/-- The sums of the squares of the activations' codes. -/
theorem ss_apply (H : Holds I b i B) (r : Fin 8) (l : Fin 128) : ss B (ix2 r l) = ((∑ k, I.x b (tok r l) k * I.x b (tok r l) k : ℝ) : EReal) := by
  unfold ss
  rw [pick_apply]
  rw [sum_chan]
  exact sumSq_apply (xSq B r) (fun k l c => I.x b (tok r l) (chan k c)) (fun k l c => xSq_apply H r k l c) r l

/-- A weighted sum with the weights in parts. -/
theorem sum_w3 (H : Holds I b i B) (m : Fin 32) (f : Fin 768 → EReal) (g : Fin 768 → ℝ) (h : ∀ k, f k = ((g k : ℝ) : EReal)) :
    (∑ k, (w3 i B (ix2 m k) : EReal) * f k) = ((if h : m.val < 8 then ∑ k, I.sh b k ⟨m.val, h⟩ * (1 + I.mod b k) * g k else 0 : ℝ) : EReal) := by
  simp only [w3_apply H, h, ← EReal.coe_mul, coe_sum]
  split
  · rfl
  · simp only [zero_mul, Finset.sum_const_zero]

/-- The three parts of a weighted sum add up to the sum with the weights. -/
theorem sum_parts (H : Holds I b i B) (r : Fin 8) (h0 h1 h2) (f : Fin 768 → EReal) (g : Fin 768 → ℝ) (h : ∀ k, f k = ((g k : ℝ) : EReal)) :
    (∑ k, (w3 i B (ix2 ⟨r.val, h0⟩ k) : EReal) * f k) + (∑ k, (w3 i B (ix2 ⟨8 + r.val, h1⟩ k) : EReal) * f k) + (∑ k, (w3 i B (ix2 ⟨16 + r.val, h2⟩ k) : EReal) * f k)
      = ((∑ k, I.sh b k r * (1 + I.mod b k) * g k : ℝ) : EReal) := by
  rw [sum_w3 H _ f g h, sum_w3 H _ f g h, sum_w3 H _ f g h, dif_pos r.isLt, dif_neg (by show ¬ 8 + r.val < 8; omega), dif_neg (by show ¬ 16 + r.val < 8; omega),
    ← EReal.coe_add, ← EReal.coe_add, add_zero, add_zero]

/-- The weighted sums of the gradient's codes. -/
theorem gs_apply (H : Holds I b i B) (r : Fin 8) (l : Fin 128) : gs i B (ix2 r l) = ((∑ k, (I.token b (tok r l)).G k : ℝ) : EReal) := by
  unfold gs gAll
  rw [pick_apply, lane_apply]
  pointwise [fold3]
  refine (sum_parts H r _ _ _ _ (fun k => I.dh b k (tok r l)) fun k => ?_).trans ?_
  · exact (load3 B.arg6 B.harg6 B.x5 0 0 0 1 768 1024 inb_S1x768x1024_S1x768x1024_0_0_0 0 k (tok r l) 0 k (tok r l) (Nat.zero_add _).symm (Nat.zero_add _).symm (Nat.zero_add _).symm).trans (H.dh _ _)
  · refine congrArg _ (Finset.sum_congr rfl fun k _ => ?_)
    show I.sh b k r * (1 + I.mod b k) * I.dh b k (tok r l) = I.dh b k (tok r l) * I.sh b k (blk (tok r l)) * (1 + I.mod b k)
    rw [blk_tok]; ring

end Cert.Stages
-- ==== Proof.Scratch.lean ====
/- The stages of the kernel over the real numbers: the codes kept in the other layout, read back. -/
module

public import proofs.«01_k».proof.Proof.Sums
public import Idealize.ShloMosaic.Lib.Pipeline.CanonAppend

@[expose] public section

set_option maxRecDepth 16384

noncomputable section

namespace Cert.Stages

open Idealize.ShloMosaic Idealize.ShloMosaic.TcCoe Cert.KernelIdeal Cert.KernelIdeal.Gen Cert.Model Cert.Consts

variable {I : Inputs} {b : Fin 112} {i : grid0.Coords} {B : Bufs Ideal}

/-- A list of pieces that are all blocks of one array holds that array wherever one of them lies. -/
theorem canon_down {S : Shape} {e : EltTy} {N : ℕ} (R : Fin N → Rect S) (P : (n : Fin N) → (R n).shape.Idx → Elt Ideal e) (G : S.Idx → Elt Ideal e)
    (hG : ∀ n x, P n x = G ((R n).emb x)) (L : List (View.Piece (Elt Ideal) S e)) (y : S.Idx) (n : Fin N) (x : (R n).shape.Idx) (hy : (R n).emb x = y) :
    View.canon (down (fun n => (⟨R n, P n⟩ : View.Piece (Elt Ideal) S e)) N (Nat.le_refl _) ++ L) y = G y := by
  refine View.canon_append_of_pieces G L _ ?_ y ⟨_, down_mem _ N _ n n.isLt, hy ▸ (R n).idx_mem x⟩
  intro p hp
  obtain ⟨n, rfl⟩ := mem_down _ _ _ _ hp
  exact hG n

/-- Token `r` of the `c`-th 256 tokens. -/
def tok256 (c : Fin 4) (r : Fin 256) : Fin 1024 := ⟨256 * c.val + r.val, by omega⟩
/-- Channel `s` of the `k`-th 256 channels. -/
def chan256 (k : Fin 3) (s : Fin 256) : Fin 768 := ⟨256 * k.val + s.val, by omega⟩

/-- The tile with a token and a channel. -/
def tileOf (n : Fin 1024) (k : Fin 768) : Fin 12 := ⟨3 * (n.val / 256) + k.val / 256, by omega⟩

/-- Where an entry of a tile sits. -/
theorem tRect_emb (n : Fin 12) (x : S256x256.Idx) : (tRect n).emb x = ix2 (tok256 (tc n) (x 0)) (chan256 (tk n) (x 1)) := by
  refine funext fun a => Fin.ext ?_
  refine (ValueKit.rect_emb_unit_val _ _ _ x a).trans ?_
  match a with
  | ⟨0, _⟩ => rfl
  | ⟨1, _⟩ => rfl

/-- Every entry sits in a tile. -/
theorem tileOf_emb (n : Fin 1024) (k : Fin 768) :
    (tRect (tileOf n k)).emb (ix2 (⟨n.val % 256, Nat.mod_lt _ (by decide)⟩ : Fin 256) (⟨k.val % 256, Nat.mod_lt _ (by decide)⟩ : Fin 256)) = ix2 n k := by
  rw [tRect_emb]
  have e0 : tok256 (tc (tileOf n k)) ⟨n.val % 256, Nat.mod_lt _ (by decide)⟩ = n := Fin.ext (by show 256 * ((3 * (n.val / 256) + k.val / 256) / 3) + n.val % 256 = n.val; omega)
  have e1 : chan256 (tk (tileOf n k)) ⟨k.val % 256, Nat.mod_lt _ (by decide)⟩ = k := Fin.ext (by show 256 * ((3 * (n.val / 256) + k.val / 256) % 3) + k.val % 256 = k.val; omega)
  exact congrArg₂ (ix2 (n0 := 1024) (n1 := 768)) e0 e1

/-- A tile laid out again as it is. -/
theorem same_apply {e : EltTy} (v : Vec Ideal S256x256 e) : shapeCast S256x256 v shapeCasts_S256x256_S256x256 = v := by
  exact shapeCast_self _ _

/-- A tile of the second gradient's codes, transposed. -/
theorem dhT_apply (H : Holds I b i B) (c : Fin 4) (k : Fin 3) (r s : Fin 256) : dhT B c k (ix2 r s) = ((I.dh b (chan256 k s) (tok256 c r) : ℝ) : EReal) :=
  codeT_apply _ (fun s r => I.dh b (chan256 k s) (tok256 c r)) (fun s r => (load3 B.arg6 B.harg6 B.x5 0 (256 * k.val) (256 * c.val) 1 256 256 (inb_code c k) 0 s r 0 (chan256 k s) (tok256 c r) rfl rfl rfl).trans (H.dh _ _)) r s

/-- A tile of the first gradient's codes, transposed. -/
theorem dyT_apply (H : Holds I b i B) (c : Fin 4) (k : Fin 3) (r s : Fin 256) : dyT B c k (ix2 r s) = ((I.dy b (chan256 k s) (tok256 c r) : ℝ) : EReal) :=
  codeT_apply _ (fun s r => I.dy b (chan256 k s) (tok256 c r)) (fun s r => (load3 B.arg4 B.harg4 B.x3 0 (256 * k.val) (256 * c.val) 1 256 256 (inb_code c k) 0 s r 0 (chan256 k s) (tok256 c r) rfl rfl rfl).trans (H.dy _ _)) r s

/-- A tile of codes as a matrix. -/
theorem widen256_apply (v : FVec Ideal S1x256x256 .fp8e4m3) (u : FVec Ideal S256x256 .bf16) (r s : Fin 256) :
    mulf u (extf .bf16 (shapeCast S256x256 v shapeCasts_S1x256x256_S256x256) bitsLt_fp8e4m3_bf16) (ix2 r s) = u (ix2 r s) * v (ix3 0 r s) := by
  pointwise []

/-- A tile of the products of the second gradient's codes and the activations' codes. -/
theorem pT_apply (H : Holds I b i B) (c : Fin 4) (k : Fin 3) (r s : Fin 256) :
    pT B c k (ix2 r s) = ((I.dh b (chan256 k s) (tok256 c r) * I.x b (tok256 c r) (chan256 k s) : ℝ) : EReal) := by
  refine (widen256_apply _ _ r s).trans ?_
  have h1 : dhbT B c k (ix2 r s) = ((I.dh b (chan256 k s) (tok256 c r) : ℝ) : EReal) := dhT_apply H c k r s
  have h2 := (load3 B.arg1 B.harg1 B.x0 0 (256 * c.val) (256 * k.val) 1 256 256 (inb_x c k) 0 r s 0 (tok256 c r) (chan256 k s) rfl rfl rfl).trans (H.x _ _)
  rw [EReal.coe_mul]
  exact congrArg₂ (α := EReal) (· * ·) h1 h2

/-- The second gradient's codes in the other layout, as an array. -/
def dhArr (I : Inputs) (b : Fin 112) (y : S1024x768.Idx) : EReal := ((I.dh b (y 1) (y 0) : ℝ) : EReal)
/-- The products of the second gradient's codes and the activations' codes, as an array. -/
def pArr (I : Inputs) (b : Fin 112) (y : S1024x768.Idx) : EReal := ((I.dh b (y 1) (y 0) * I.x b (y 0) (y 1) : ℝ) : EReal)

/-- What the first scratch buffer holds. -/
theorem T0_apply (H : Holds I b i B) (n : Fin 1024) (k : Fin 768) : View.canon (T0 B) (ix2 n k) = ((I.dh b k n : ℝ) : EReal) := by
  unfold T0
  rw [← List.append_nil (down _ _ _)]
  refine canon_down (e := .f32) tRect _ (dhArr I b) (fun n x => ?_) [] (ix2 n k) (tileOf n k) _ (tileOf_emb n k)
  refine (congrFun (same_apply (e := .f32) _) x).trans ?_
  rw [tRect_emb]
  obtain ⟨r, s, rfl⟩ : ∃ (r : Fin 256) (s : Fin 256), x = ix2 r s := ⟨x 0, x 1, ValueIdx.eq_ix2 x⟩
  exact dhT_apply H _ _ r s

/-- What the second scratch buffer holds. -/
theorem T1_apply (H : Holds I b i B) (n : Fin 1024) (k : Fin 768) : View.canon (T1 B) (ix2 n k) = ((I.dh b k n : ℝ) : EReal) := by
  unfold T1
  rw [← List.append_nil (down _ _ _)]
  refine canon_down (e := .bf16) tRect _ (dhArr I b) (fun n x => ?_) [] (ix2 n k) (tileOf n k) _ (tileOf_emb n k)
  refine (congrFun (same_apply (e := .bf16) _) x).trans ?_
  rw [tRect_emb]
  obtain ⟨r, s, rfl⟩ : ∃ (r : Fin 256) (s : Fin 256), x = ix2 r s := ⟨x 0, x 1, ValueIdx.eq_ix2 x⟩
  exact dhT_apply H _ _ r s

/-- What the third scratch buffer holds. -/
theorem T2_apply (H : Holds I b i B) (n : Fin 1024) (k : Fin 768) : View.canon (T2 B) (ix2 n k) = ((I.dh b k n * I.x b n k : ℝ) : EReal) := by
  unfold T2
  rw [← List.append_nil (down _ _ _)]
  refine canon_down (e := .bf16) tRect _ (pArr I b) (fun n x => ?_) [] (ix2 n k) (tileOf n k) _ (tileOf_emb n k)
  refine (congrFun (same_apply (e := .bf16) _) x).trans ?_
  rw [tRect_emb]
  obtain ⟨r, s, rfl⟩ : ∃ (r : Fin 256) (s : Fin 256), x = ix2 r s := ⟨x 0, x 1, ValueIdx.eq_ix2 x⟩
  exact pT_apply H _ _ r s

/-- A box of a matrix held in pieces, entry by entry. -/
theorem readCov2 {e : EltTy} (m : Memref sig .tc .vmem S1024x768 e) (L : List (View.Piece (Elt Ideal) S1024x768 e)) (o0 o1 z0 z1 : ℕ) (inb)
    (y0 : Fin z0) (y1 : Fin z1) (n : Fin 1024) (k : Fin 768) (h0 : n.val = o0 + y0.val) (h1 : k.val = o1 + y1.val) :
    m.view.readCov L (Rect.unit (s := S1024x768) ![o0, o1] ![z0, z1] inb).toLoadRect (ix2 y0 y1) = View.canon L (ix2 n k) := by
  rw [View.readCov_eq_canon']
  refine congrArg (View.canon L) (funext fun a => Fin.ext ?_)
  refine (Rect.idx_unit_val _ _ _ _ a).trans ?_
  match a with
  | ⟨0, _⟩ => exact h0.symm
  | ⟨1, _⟩ => exact h1.symm

/-- The second gradient's codes in the narrow format, read back. -/
theorem dhb_apply (H : Holds I b i B) (n : Fin 1024) (k : Fin 768) : dhb B (ix2 n k) = ((I.dh b k n : ℝ) : EReal) :=
  (readCov2 B.arg13 (T1 B) 0 0 1024 768 inb_S1024x768_S1024x768_0_0 n k n k (Nat.zero_add _).symm (Nat.zero_add _).symm).trans (T1_apply H n k)

/-- The products, read back. -/
theorem p_apply (H : Holds I b i B) (n : Fin 1024) (k : Fin 768) : p B (ix2 n k) = ((I.dh b k n * I.x b n k : ℝ) : EReal) :=
  (readCov2 B.arg14 (T2 B) 0 0 1024 768 inb_S1024x768_S1024x768_0_0 n k n k (Nat.zero_add _).symm (Nat.zero_add _).symm).trans (T2_apply H n k)

/-- Token `t` of the `r`-th sixteen of block `j`. -/
def tok16 (j r : Fin 8) (t : Fin 16) : Fin 1024 := ⟨128 * j.val + 16 * r.val + t.val, by omega⟩

/-- Sixteen tokens of the second gradient's codes, read back. -/
theorem dht16_apply (H : Holds I b i B) (j : Fin 8) (k : Fin 6) (r : Fin 8) (t : Fin 16) (c : Fin 128) :
    dht16 B j k r (ix2 t c) = ((I.dh b (chan k c) (tok16 j r t) : ℝ) : EReal) :=
  (readCov2 B.arg12 (T0 B) (128 * j.val + 16 * r.val) (128 * k.val) 16 128 (inb_16t j k r) t c (tok16 j r t) (chan k c) rfl rfl).trans (T0_apply H _ _)

/-- The weighted sums of the products. -/
theorem gx_apply (H : Holds I b i B) (r : Fin 8) (l : Fin 128) : gx i B (ix2 r l) = ((∑ k, (I.token b (tok r l)).G k * I.x b (tok r l) k : ℝ) : EReal) := by
  unfold gx gxAll
  rw [pick_apply, lane_apply]
  pointwise [fold3]
  refine (sum_parts H r _ _ _ _ (fun k => I.dh b k (tok r l) * I.x b (tok r l) k) fun k => p_apply H _ _).trans ?_
  refine congrArg _ (Finset.sum_congr rfl fun k _ => ?_)
  show I.sh b k r * (1 + I.mod b k) * (I.dh b k (tok r l) * I.x b (tok r l) k) = I.dh b k (tok r l) * I.sh b k (blk (tok r l)) * (1 + I.mod b k) * I.x b (tok r l) k
  rw [blk_tok]; ring

end Cert.Stages
-- ==== Proof.Stats.lean ====
/- The stages of the kernel over the real numbers: the statistics of a token and the factors made of them. -/
module

public import proofs.«01_k».proof.Proof.Scratch

@[expose] public section

set_option maxRecDepth 16384

noncomputable section

namespace Cert.Stages

open Idealize.ShloMosaic Idealize.ShloMosaic.TcCoe Cert.KernelIdeal Cert.KernelIdeal.Gen Cert.Model Cert.Consts

variable {I : Inputs} {b : Fin 112} {i : grid0.Coords} {B : Bufs Ideal}

/-- The named constant is one over the number of channels. -/
theorem inv_d : (Named.named κ "inv_d" 0x3AAAAAAB#32 : Ideal .f32) = (((1 : ℝ) / 768 : ℝ) : EReal) := by
  refine (IdealRules.named_const.ideal_named_scalar _ _ _ _ rfl).trans ?_
  rfl

/-- The scale of a token. -/
theorem xs_apply (H : Holds I b i B) (j : Fin 8) (l : Fin 128) : xs i B (ix2 j l) = ((I.xs b (tok j l) : ℝ) : EReal) := by
  unfold xs
  rw [pick_apply, lane_apply, xsRow_apply H]

/-- The mean. -/
theorem m_apply (H : Holds I b i B) (j : Fin 8) (l : Fin 128) : m B (ix2 j l) = (((I.token b (tok j l)).m : ℝ) : EReal) := by
  pointwise [m, invD]
  simp only [s_apply H, inv_d, ← EReal.coe_mul]
  rfl

/-- The variance. -/
theorem var_apply (H : Holds I b i B) (j : Fin 8) (l : Fin 128) : var B (ix2 j l) = (((I.token b (tok j l)).var : ℝ) : EReal) := by
  pointwise [var, invD]
  simp only [ss_apply H, m_apply H, inv_d, ← EReal.coe_mul, ← EReal.coe_sub, ← EReal.coe_zero]
  exact (EReal.coe_strictMono.monotone.map_max).symm

/-- The reciprocal of the standard deviation. -/
theorem rstd_apply (H : Holds I b i B) (j : Fin 8) (l : Fin 128) : rstd i B (ix2 j l) = (((√(I.token b (tok j l)).v')⁻¹ : ℝ) : EReal) := by
  pointwise [rstd]
  simp only [xs_apply H, var_apply H, ofBits_eps, Ideal.rsqrt_def, Ideal.ofBits_def, ← EReal.coe_mul, ← EReal.coe_add]
  refine rsqrt_pos ?_
  have h := I.v_pos b (tok j l)
  rw [← Math.Token.v'_eq] at h
  exact h

/-- The factor of the code in the normalised activation. -/
theorem a_apply (H : Holds I b i B) (j : Fin 8) (l : Fin 128) : a i B (ix2 j l) = (((I.token b (tok j l)).a : ℝ) : EReal) := by
  pointwise [a]
  simp only [xs_apply H, rstd_apply H, ← EReal.coe_mul]
  rfl

/-- The constant in the normalised activation. -/
theorem b0_apply (H : Holds I b i B) (j : Fin 8) (l : Fin 128) : b0 i B (ix2 j l) = (((I.token b (tok j l)).b : ℝ) : EReal) := by
  pointwise [b0]
  simp only [m_apply H, a_apply H, zero_sub, ← EReal.coe_neg, ← EReal.coe_mul]
  rfl

/-- The mean of the gradient times the normalised activation. -/
theorem meanGX_apply (H : Holds I b i B) (j : Fin 8) (l : Fin 128) : meanGX i B (ix2 j l) = (((I.token b (tok j l)).meanGX' : ℝ) : EReal) := by
  pointwise [meanGX, invD]
  simp only [a_apply H, gx_apply H, b0_apply H, gs_apply H, inv_d, ← EReal.coe_mul, ← EReal.coe_add]
  rfl

/-- The factor of the code in the result. -/
theorem alpha_apply (H : Holds I b i B) (j : Fin 8) (l : Fin 128) :
    alpha i B (ix2 j l) = ((-(√(I.token b (tok j l)).v')⁻¹ * (I.token b (tok j l)).a * (I.token b (tok j l)).meanGX' : ℝ) : EReal) := by
  pointwise [alpha]
  simp only [a_apply H, rstd_apply H, meanGX_apply H, zero_sub, ← EReal.coe_neg, ← EReal.coe_mul]

/-- The constant in the result. -/
theorem beta_apply (H : Holds I b i B) (j : Fin 8) (l : Fin 128) :
    beta i B (ix2 j l) = ((-(√(I.token b (tok j l)).v')⁻¹ * ((∑ k, (I.token b (tok j l)).G k) * (1 / 768) + (I.token b (tok j l)).b * (I.token b (tok j l)).meanGX') : ℝ) : EReal) := by
  pointwise [beta, invD]
  simp only [b0_apply H, gs_apply H, rstd_apply H, meanGX_apply H, inv_d, zero_sub, ← EReal.coe_neg, ← EReal.coe_mul, ← EReal.coe_add]

/-! ## The gradients of shift and scale -/

/-- A product whose rows lie along the diagonal blocks sums over one block of tokens. -/
theorem sum_blockDiag (u : FVec Ideal S8x128 .f32) (j : Fin 8) (f : Fin 128 → ℝ) (hu : ∀ l, u (ix2 j l) = ((f l : ℝ) : EReal)) (g : Fin 1024 → EReal) (h : Fin 1024 → ℝ)
    (hg : ∀ n, g n = ((h n : ℝ) : EReal)) : (∑ n, (blockDiag u (ix2 j n) : EReal) * g n) = ((∑ l, f l * h (tok j l) : ℝ) : EReal) := by
  rw [sum_tok, Finset.sum_eq_single j, ← coe_sum]
  · refine Finset.sum_congr rfl fun l _ => ?_
    rw [blockDiag_apply, if_pos rfl, hu, hg, ← EReal.coe_mul]
  · intro j' _ hj
    refine Finset.sum_eq_zero fun l _ => ?_
    rw [blockDiag_apply, if_neg (Ne.symm hj), EReal.coe_zero, zero_mul]
  · exact fun h => absurd (Finset.mem_univ _) h

/-- Four tiles of rows against a matrix. -/
def rowsDot (u0 u1 u2 u3 : FVec Ideal S8x1024 .f32) (P : FVec Ideal S1024x768 .bf16) : FVec Ideal S32x768 .f32 :=
  matmul dot_S32x1024_S1024x768_S32x768_1_0_0_1_n_n none (rows4 u0 u1 u2 u3) P (constant S32x768 .f32 0x00000000#32)

/-- The first eight rows of the product. -/
theorem rowsDot0 (u0 u1 u2 u3 : FVec Ideal S8x1024 .f32) (P : FVec Ideal S1024x768 .bf16) (j : Fin 8) (k : Fin 768) (h) :
    rowsDot u0 u1 u2 u3 P (ix2 ⟨j.val, h⟩ k) = ∑ n, (u0 (ix2 j n) : EReal) * P (ix2 n k) := by
  pointwise [rowsDot, rows4]

/-- The second eight rows of the product. -/
theorem rowsDot1 (u0 u1 u2 u3 : FVec Ideal S8x1024 .f32) (P : FVec Ideal S1024x768 .bf16) (j : Fin 8) (k : Fin 768) (h) :
    rowsDot u0 u1 u2 u3 P (ix2 ⟨8 + j.val, h⟩ k) = ∑ n, (u1 (ix2 j n) : EReal) * P (ix2 n k) := by
  pointwise [rowsDot, rows4]

/-- The third eight rows of the product. -/
theorem rowsDot2 (u0 u1 u2 u3 : FVec Ideal S8x1024 .f32) (P : FVec Ideal S1024x768 .bf16) (j : Fin 8) (k : Fin 768) (h) :
    rowsDot u0 u1 u2 u3 P (ix2 ⟨16 + j.val, h⟩ k) = ∑ n, (u2 (ix2 j n) : EReal) * P (ix2 n k) := by
  pointwise [rowsDot, rows4]
  have e : 16 + j.val - 8 - 8 = j.val := by omega
  simp only [dif_neg (by omega : ¬ 16 + j.val < 8), dif_neg (by omega : ¬ 16 + j.val - 8 < 8), e, dif_pos j.isLt]

/-- The last eight rows of the product. -/
theorem rowsDot3 (u0 u1 u2 u3 : FVec Ideal S8x1024 .f32) (P : FVec Ideal S1024x768 .bf16) (j : Fin 8) (k : Fin 768) (h) :
    rowsDot u0 u1 u2 u3 P (ix2 ⟨24 + j.val, h⟩ k) = ∑ n, (u3 (ix2 j n) : EReal) * P (ix2 n k) := by
  pointwise [rowsDot, rows4]
  have e : 24 + j.val - 8 - 8 - 8 = j.val := by omega
  simp only [dif_neg (by omega : ¬ 24 + j.val < 8), dif_neg (by omega : ¬ 24 + j.val - 8 < 8), dif_neg (by omega : ¬ 24 + j.val - 8 - 8 < 8), e]

/-- The three parts of a statistic against a matrix add up to its sum over one block of tokens. -/
theorem rowsDot_parts (v : FVec Ideal S8x128 .f32) (u3 : FVec Ideal S8x1024 .f32) (P : FVec Ideal S1024x768 .bf16) (j : Fin 8) (k : Fin 768)
    (f : Fin 128 → ℝ) (hv : ∀ l, v (ix2 j l) = ((f l : ℝ) : EReal)) (g : Fin 1024 → ℝ) (hg : ∀ n, P (ix2 n k) = ((g n : ℝ) : EReal)) (h0 h1 h2) :
    rowsDot (blockDiag (hi v)) (blockDiag (mid v)) (blockDiag (lo v)) u3 P (ix2 ⟨j.val, h0⟩ k) = ((∑ l, f l * g (tok j l) : ℝ) : EReal)
    ∧ rowsDot (blockDiag (hi v)) (blockDiag (mid v)) (blockDiag (lo v)) u3 P (ix2 ⟨8 + j.val, h1⟩ k) = ((0 : ℝ) : EReal)
    ∧ rowsDot (blockDiag (hi v)) (blockDiag (mid v)) (blockDiag (lo v)) u3 P (ix2 ⟨16 + j.val, h2⟩ k) = ((0 : ℝ) : EReal) := by
  refine ⟨?_, ?_, ?_⟩
  · rw [rowsDot0]
    exact sum_blockDiag _ j f hv _ g hg
  · rw [rowsDot1]
    refine (sum_blockDiag _ j (fun _ => 0) (fun l => mid_apply _ _ _ (hv l)) _ g hg).trans ?_
    simp only [zero_mul, Finset.sum_const_zero]
  · rw [rowsDot2]
    refine (sum_blockDiag _ j (fun _ => 0) (fun l => lo_apply _ _ _ (hv l)) _ g hg).trans ?_
    simp only [zero_mul, Finset.sum_const_zero]

/-- The gradient of the shift over one block. -/
theorem dshift_apply (H : Holds I b i B) (j : Fin 8) (k : Fin 768) : dshift i B (ix4 0 0 j k) = ((I.dshift b j k : ℝ) : EReal) := by
  pointwise [dshift]
  rw [sh_apply H]
  refine (congrArg (((I.sh b k j : ℝ) : EReal) * ·) ((rowsDot3 _ _ _ _ _ j k _).trans
    (sum_blockDiag (broadcast S8x128 one) j (fun _ => 1) (fun l => ofBits_one) _ (fun n => I.dh b k n) fun n => dhb_apply H n k))).trans ?_
  show ((I.sh b k j : ℝ) : EReal) * _ = _
  rw [← EReal.coe_mul]
  refine congrArg _ ?_
  rw [Finset.mul_sum]
  exact Finset.sum_congr rfl fun l _ => by ring

/-- The gradient of the scale over one block. -/
theorem dscale_apply (H : Holds I b i B) (j : Fin 8) (k : Fin 768) : dscale i B (ix4 0 0 j k) = ((I.dscale b j k : ℝ) : EReal) := by
  pointwise [dscale]
  have ha := rowsDot_parts (a i B) (broadcast S8x1024 zero) (p B) j k _ (fun l => a_apply H j l) _ (fun n => p_apply H n k)
  have hb := rowsDot_parts (b0 i B) (blockDiag (broadcast S8x128 one)) (dhb B) j k _ (fun l => b0_apply H j l) _ (fun n => dhb_apply H n k)
  obtain ⟨a0, a1, a2⟩ := ha (by omega) (by omega) (by omega)
  obtain ⟨c0, c1, c2⟩ := hb (by omega) (by omega) (by omega)
  unfold ra rb
  unfold rowsDot at a0 a1 a2 c0 c1 c2
  rw [a0, a1, a2, c0, c1, c2, sh_apply H]
  simp only [← EReal.coe_add, ← EReal.coe_mul, add_zero]
  refine congrArg _ ((Math.dscale_eq Finset.univ (I.sh b k j) (fun l => I.dh b k (tok j l)) (fun l => I.x b (tok j l) k) _ _).trans ?_)
  exact Finset.sum_congr rfl fun l _ => by rw [Math.Token.xhat_eq]; rfl

end Cert.Stages
-- ==== Proof.Tiles.lean ====
/- The stages of the kernel over the real numbers: the tiles of the gradient to the activations and to the gate, and what the outputs hold. -/
module

public import proofs.«01_k».proof.Proof.Stats

@[expose] public section

set_option maxRecDepth 16384

noncomputable section

namespace Cert.Stages

open Idealize.ShloMosaic Idealize.ShloMosaic.TcCoe Cert.KernelIdeal Cert.KernelIdeal.Gen Cert.Model Cert.Consts

variable {I : Inputs} {b : Fin 112} {i : grid0.Coords} {B : Bufs Ideal}

/-- The place of a token of a sixteen in its block. -/
def in16 (r : Fin 8) (t : Fin 16) : Fin 128 := ⟨16 * r.val + t.val, by omega⟩

/-- A token of a sixteen is the token at its place in the block. -/
theorem tok_in16 (j r : Fin 8) (t : Fin 16) : tok j (in16 r t) = tok16 j r t :=
  Fin.ext (by show j.val * 128 + (16 * r.val + t.val) = 128 * j.val + 16 * r.val + t.val; omega)

/-- A row of a statistic, sixteen tokens of it, as a column repeated. -/
theorem col16_apply (v : FVec Ideal S8x128 .f32) (j r : Fin 8) (t : Fin 16) (c : Fin 128) : col16 v j r (ix2 t c) = v (ix2 j (in16 r t)) := by
  pointwise [col16, column]
  rfl

/-- The scale of the first gradient. -/
theorem sy_apply (H : Holds I b i B) (j : Fin 8) (k : Fin 6) (c : Fin 128) : sy B j k (ix2 0 c) = ((I.sy b (chan k c) j : ℝ) : EReal) := by
  have e : ∀ v : FVec Ideal S1x1x128 .f32, shapeCast S1x128 v shapeCasts_S1x1x128_S1x128 (ix2 0 c) = v (ix3 0 0 c) := fun v => by pointwise []
  refine (e _).trans ?_
  exact (load3 B.arg5 B.harg5 B.x4 0 j.val (128 * k.val) 1 1 128 (inb_sy j k) 0 0 c 0 j (chan k c) rfl rfl rfl).trans (H.sy _ _)

/-- Sixteen tokens of the first gradient's codes. -/
theorem dyv_apply (H : Holds I b i B) (j : Fin 8) (k : Fin 6) (r : Fin 8) (t : Fin 16) (c : Fin 128) :
    dyv B j k r (ix2 t c) = ((I.dy b (chan k c) (tok16 j r t) : ℝ) : EReal) := by
  pointwise [dyv]
  rw [dyT_apply H]
  have e0 : ∀ h, chan256 (kc k) ⟨128 * (k.val % 2) + c.val, h⟩ = chan k c := fun h => Fin.ext (by show 256 * (k.val / 2) + (128 * (k.val % 2) + c.val) = 128 * k.val + c.val; omega)
  have e1 : ∀ h, tok256 (jc j) ⟨128 * (j.val % 2) + 16 * r.val + t.val, h⟩ = tok16 j r t := fun h => Fin.ext (by show 256 * (j.val / 2) + (128 * (j.val % 2) + 16 * r.val + t.val) = 128 * j.val + 16 * r.val + t.val; omega)
  rw [e0, e1]

/-- A tile of the result from a tile of each of its ingredients. -/
def dxOf (dy : FVec Ideal S16x128 .f32) (sy : FVec Ideal S1x128 .f32) (dh : FVec Ideal S16x128 .f32) (w : FVec Ideal S1x128 .f32) (cr : FVec Ideal S16x128 .f32)
    (x : FVec Ideal S1x16x128 .fp8e4m3) (ca cb : FVec Ideal S16x128 .f32) : FVec Ideal S1x16x128 .bf16 :=
  shapeCast S1x16x128 (truncf .bf16 (addf
    (addf (mulf dy (broadcastTo S16x128 sy broadcasts_S1x128_S16x128)) (mulf (mulf dh (broadcastTo S16x128 w broadcasts_S1x128_S16x128)) cr))
    (addf (mulf (extf .f32 (shapeCast S16x128 x shapeCasts_S1x16x128_S16x128) bitsLt_fp8e4m3_f32) ca) cb))
    bitsLt_bf16_f32) shapeCasts_S16x128_S1x16x128

/-- Its entries. -/
theorem dxOf_apply (dy : FVec Ideal S16x128 .f32) (sy : FVec Ideal S1x128 .f32) (dh : FVec Ideal S16x128 .f32) (w : FVec Ideal S1x128 .f32) (cr : FVec Ideal S16x128 .f32)
    (x : FVec Ideal S1x16x128 .fp8e4m3) (ca cb : FVec Ideal S16x128 .f32) (t : Fin 16) (c : Fin 128) (dy' sy' dh' w' cr' x' ca' cb' : ℝ)
    (h0 : dy (ix2 t c) = (dy' : EReal)) (h1 : sy (ix2 0 c) = (sy' : EReal)) (h2 : dh (ix2 t c) = (dh' : EReal)) (h3 : w (ix2 0 c) = (w' : EReal))
    (h4 : cr (ix2 t c) = (cr' : EReal)) (h5 : x (ix3 0 t c) = (x' : EReal)) (h6 : ca (ix2 t c) = (ca' : EReal)) (h7 : cb (ix2 t c) = (cb' : EReal)) :
    dxOf dy sy dh w cr x ca cb (ix3 0 t c) = ((dy' * sy' + dh' * w' * cr' + (x' * ca' + cb') : ℝ) : EReal) := by
  pointwise [dxOf]
  rw [h0, h1, h2, h3, h4, h5, h6, h7]
  simp only [← EReal.coe_mul, ← EReal.coe_add]

/-- One row of the weights. -/
theorem w_row (H : Holds I b i B) (j : Fin 8) (k : Fin 6) (c : Fin 128) :
    extractStridedSlice S1x128 ![j.val, 128 * k.val] (w i B) (slice_w j k) (ix2 0 c) = ((I.sh b (chan k c) j * (1 + I.mod b (chan k c)) : ℝ) : EReal) := by
  have e : ∀ v : FVec Ideal S8x768 .f32, extractStridedSlice S1x128 ![j.val, 128 * k.val] v (slice_w j k) (ix2 0 c) = v (ix2 j (chan k c)) := fun v => by
    pointwise []
    rfl
  rw [e, w_apply H]

/-- The gradient to the activations. -/
theorem dxTile_apply (H : Holds I b i B) (j : Fin 8) (k : Fin 6) (r : Fin 8) (t : Fin 16) (c : Fin 128) :
    dxTile i B j k r (ix3 0 t c) = ((I.dx b (tok16 j r t) (chan k c) : ℝ) : EReal) := by
  have hx := (load3 B.arg1 B.harg1 B.x0 0 (128 * j.val + 16 * r.val) (128 * k.val) 1 16 128 (inb_16 j k r) 0 t c 0 (tok16 j r t) (chan k c) rfl rfl rfl).trans (H.x _ _)
  have hr := (col16_apply (rstd i B) j r t c).trans (rstd_apply H j (in16 r t))
  have ha := (col16_apply (alpha i B) j r t c).trans (alpha_apply H j (in16 r t))
  have hb := (col16_apply (beta i B) j r t c).trans (beta_apply H j (in16 r t))
  refine (dxOf_apply _ _ _ _ _ _ _ _ t c _ _ _ _ _ _ _ _ (dyv_apply H j k r t c) (sy_apply H j k c) (dht16_apply H j k r t c) (w_row H j k c) hr hx ha hb).trans ?_
  have hblk : blk (tok16 j r t) = j := by rw [← tok_in16]; exact blk_tok _ _
  rw [tok_in16]
  refine congrArg _ ?_
  have h := (I.token b (tok16 j r t)).dx_eq (chan k c) (I.dy b (chan k c) (tok16 j r t) * I.sy b (chan k c) j)
  have hG : (I.token b (tok16 j r t)).G (chan k c) = I.dh b (chan k c) (tok16 j r t) * (I.sh b (chan k c) j * (1 + I.mod b (chan k c))) := by
    show I.dh b (chan k c) (tok16 j r t) * I.sh b (chan k c) (blk (tok16 j r t)) * (1 + I.mod b (chan k c)) = _
    rw [hblk, mul_assoc]
  have hX : (I.token b (tok16 j r t)).X (chan k c) = I.x b (tok16 j r t) (chan k c) := rfl
  unfold Inputs.dx
  rw [hblk, ← h, hG, hX]

/-- Two halves of a tile of products added up. -/
def foldOf (dy : FVec Ideal S16x128 .f32) (f : FVec Ideal S1x16x128 .bf16) : FVec Ideal S8x128 .f32 :=
  addf (extractStridedSlice S8x128 ![0, 0] (mulf dy (extf .f32 (shapeCast S16x128 f shapeCasts_S1x16x128_S16x128) bitsLt_bf16_f32)) slices_S16x128_o0_0_S8x128)
    (extractStridedSlice S8x128 ![8, 0] (mulf dy (extf .f32 (shapeCast S16x128 f shapeCasts_S1x16x128_S16x128) bitsLt_bf16_f32)) slices_S16x128_o8_0_S8x128)

/-- Its entries. -/
theorem foldOf_apply (dy : FVec Ideal S16x128 .f32) (f : FVec Ideal S1x16x128 .bf16) (c : Fin 128) (g : Fin 16 → ℝ)
    (h : ∀ t, (dy (ix2 t c) : EReal) * f (ix3 0 t c) = ((g t : ℝ) : EReal)) (u : Fin 8) (h0 h1) :
    foldOf dy f (ix2 u c) = ((g ⟨u.val, h0⟩ + g ⟨8 + u.val, h1⟩ : ℝ) : EReal) := by
  pointwise [foldOf]
  rw [h, h, ← EReal.coe_add]

/-- Two tokens' products of the first gradient and the branch. -/
theorem pr_apply (H : Holds I b i B) (j : Fin 8) (k : Fin 6) (r u : Fin 8) (c : Fin 128) :
    pr B j k r (ix2 u c) = ((I.dy b (chan k c) (tok16 j r ⟨u.val, by omega⟩) * I.f b (tok16 j r ⟨u.val, by omega⟩) (chan k c)
      + I.dy b (chan k c) (tok16 j r ⟨8 + u.val, by omega⟩) * I.f b (tok16 j r ⟨8 + u.val, by omega⟩) (chan k c) : ℝ) : EReal) := by
  refine foldOf_apply (dyv B j k r) _ c (fun t => I.dy b (chan k c) (tok16 j r t) * I.f b (tok16 j r t) (chan k c)) (fun t => ?_) u _ _
  rw [EReal.coe_mul]
  exact congrArg₂ (α := EReal) (· * ·) (dyv_apply H j k r t c)
    ((load3 B.arg3 B.harg3 B.x2 0 (128 * j.val + 16 * r.val) (128 * k.val) 1 16 128 (inb_16 j k r) 0 t c 0 (tok16 j r t) (chan k c) rfl rfl rfl).trans (H.f _ _))

/-- A sum over a block of tokens, as the tile adds it up. -/
theorem sum_block (j : Fin 8) (f : Fin 1024 → ℝ) :
    ∑ u : Fin 8, ∑ r : Fin 8, (f (tok16 j r ⟨u.val, by omega⟩) + f (tok16 j r ⟨8 + u.val, by omega⟩)) = ∑ l : Fin 128, f (tok j l) := by
  have e : ∑ l : Fin 128, f (tok j l) = ∑ r : Fin 8, ∑ t : Fin 16, f (tok16 j r t) := by
    rw [← Finset.sum_product', Finset.univ_product_univ]
    refine (Fintype.sum_equiv (finProdFinEquiv (m := 8) (n := 16)) _ _ fun x => ?_).symm
    exact congrArg f (Fin.ext (by show 128 * j.val + 16 * x.1.val + x.2.val = j.val * 128 + (x.2.val + 16 * x.1.val); omega))
  rw [e, Finset.sum_comm]
  refine Finset.sum_congr rfl fun r _ => ?_
  rw [Fin.sum_univ_add (a := 8) (b := 8), ← Finset.sum_add_distrib]
  exact Finset.sum_congr rfl fun u _ => rfl

/-- The gradient to the gate over one block. -/
theorem gateTile_apply (H : Holds I b i B) (j : Fin 8) (k : Fin 6) (c : Fin 128) : gateTile B j k (ix4 0 0 0 c) = ((I.dgate b j (chan k c) : ℝ) : EReal) := by
  pointwise [gateTile]
  simp only [pr_apply H, sy_apply H, ← EReal.coe_add, coe_sum, ← EReal.coe_mul]
  refine congrArg _ ?_
  have h := sum_block j fun n => I.dy b (chan k c) n * I.f b n (chan k c)
  have h' := (Finset.sum_congr rfl fun u _ => (Fin.sum_univ_eight _).symm).trans h
  refine (congrArg (· * I.sy b (chan k c) j) h').trans ?_
  show (∑ l : Fin 128, I.dy b (chan k c) (tok j l) * I.f b (tok j l) (chan k c)) * I.sy b (chan k c) j = _
  rw [Finset.sum_mul]
  exact Finset.sum_congr rfl fun l _ => by ring

/-! ## What the outputs hold -/

/-- The first output's block as an array. -/
def dxArr (I : Inputs) (b : Fin 112) (y : S1x1024x768.Idx) : EReal := ((I.dx b (y 1) (y 2) : ℝ) : EReal)

/-- Where an entry of a tile of the first output sits. -/
theorem rect16_emb (j : Fin 8) (k : Fin 6) (r : Fin 8) (x : S1x16x128.Idx) : (rect16 j k r).emb x = ix3 0 (tok16 j r (x 1)) (chan k (x 2)) := by
  have h0 : (x 0).val = 0 := Nat.lt_one_iff.mp (x 0).isLt
  refine funext fun a => Fin.ext ?_
  refine (ValueKit.rect_emb_unit_val _ _ _ x a).trans ?_
  match a with
  | ⟨0, _⟩ => exact congrArg (0 + ·) h0
  | ⟨1, _⟩ => rfl
  | ⟨2, _⟩ => rfl

/-- The piece of the first output with block `j`, group `k` and sixteen `r`. -/
def num8 (j : Fin 8) (k : Fin 6) (r : Fin 8) : Fin 384 := ⟨96 * (j.val / 2) + 32 * (k.val / 2) + 16 * (j.val % 2) + 8 * (k.val % 2) + r.val, by omega⟩

/-- The number of a piece gives back its block, group and sixteen. -/
theorem num8_eq : ∀ (j : Fin 8) (k : Fin 6) (r : Fin 8), dj (num8 j k r) = j ∧ dk (num8 j k r) = k ∧ dr (num8 j k r) = r := by decide +kernel

/-- The first output's block. -/
theorem P8_apply (H : Holds I b i B) (n : Fin 1024) (k : Fin 768) : View.canon (P8 i B) (ix3 0 n k) = ((I.dx b n k : ℝ) : EReal) := by
  unfold P8
  rw [← List.append_nil (down _ _ _)]
  refine canon_down (e := .bf16) (fun n => rect16 (dj n) (dk n) (dr n)) _ (dxArr I b) (fun n x => ?_) [] (ix3 0 n k)
    (num8 ⟨n.val / 128, by omega⟩ ⟨k.val / 128, by omega⟩ ⟨n.val / 16 % 8, by omega⟩) (ix3 0 (⟨n.val % 16, by omega⟩ : Fin 16) (⟨k.val % 128, by omega⟩ : Fin 128)) ?_
  · obtain ⟨z, t, c, rfl⟩ : ∃ (z : Fin 1) (t : Fin 16) (c : Fin 128), x = ix3 z t c := ⟨x 0, x 1, x 2, ValueIdx.eq_ix3 x⟩
    obtain rfl : z = 0 := Fin.ext (Nat.lt_one_iff.mp z.isLt)
    rw [rect16_emb]
    exact dxTile_apply H _ _ _ t c
  · refine (rect16_emb _ _ _ _).trans ?_
    obtain ⟨e0, e1, e2⟩ := num8_eq ⟨n.val / 128, by omega⟩ ⟨k.val / 128, by omega⟩ ⟨n.val / 16 % 8, by omega⟩
    rw [e0, e1, e2]
    refine congrArg₂ (ix3 (n0 := 1) (n1 := 1024) (n2 := 768) 0) (Fin.ext ?_) (Fin.ext ?_)
    · show 128 * (n.val / 128) + 16 * (n.val / 16 % 8) + n.val % 16 = n.val
      omega
    · show 128 * (k.val / 128) + k.val % 128 = k.val
      omega

/-- The block sums' block as an array. -/
def partArr (I : Inputs) (b : Fin 112) (y : S1x3x8x768.Idx) : EReal := ((I.part (y 1) b (y 2) (y 3) : ℝ) : EReal)

/-- The rectangle of a tile of the gate. -/
abbrev rectG (j : Fin 8) (k : Fin 6) : Rect S1x3x8x768 := Rect.unit (s := S1x3x8x768) ![0, 2, j.val, 128 * k.val] S1x1x1x128.size (inb_gate j k)

/-- Where an entry of a tile of the gate sits. -/
theorem rectG_emb (j : Fin 8) (k : Fin 6) (x : S1x1x1x128.Idx) : (rectG j k).emb x = ix4 0 2 j (chan k (x 3)) := by
  have h0 : (x 0).val = 0 := Nat.lt_one_iff.mp (x 0).isLt
  have h1 : (x 1).val = 0 := Nat.lt_one_iff.mp (x 1).isLt
  have h2 : (x 2).val = 0 := Nat.lt_one_iff.mp (x 2).isLt
  refine funext fun a => Fin.ext ?_
  refine (ValueKit.rect_emb_unit_val _ _ _ x a).trans ?_
  match a with
  | ⟨0, _⟩ => exact congrArg (0 + ·) h0
  | ⟨1, _⟩ => exact congrArg (2 + ·) h1
  | ⟨2, _⟩ => exact congrArg (j.val + ·) h2
  | ⟨3, _⟩ => rfl

/-- The piece of the gate with block `j` and group `k`. -/
def num10 (j : Fin 8) (k : Fin 6) : Fin 48 := ⟨12 * (j.val / 2) + 4 * (k.val / 2) + 2 * (j.val % 2) + k.val % 2, by omega⟩

/-- The number of a piece of the gate gives back its block and group. -/
theorem num10_eq : ∀ (j : Fin 8) (k : Fin 6), gj (num10 j k) = j ∧ gk (num10 j k) = k := by decide +kernel

/-- Where an entry of one of the eight-row planes of the block sums sits. -/
theorem plane10_emb (q : Fin 3) (x : S1x1x8x768.Idx) : (Rect.unit (s := S1x3x8x768) ![0, q.val, 0, 0] S1x1x8x768.size (inb_q q)).emb x = ix4 0 q (x 2) (x 3) := by
  have h0 : (x 0).val = 0 := Nat.lt_one_iff.mp (x 0).isLt
  have h1 : (x 1).val = 0 := Nat.lt_one_iff.mp (x 1).isLt
  refine funext fun a => Fin.ext ?_
  refine (ValueKit.rect_emb_unit_val _ _ _ x a).trans ?_
  match a with
  | ⟨0, _⟩ => exact congrArg (0 + ·) h0
  | ⟨1, _⟩ => exact congrArg (q.val + ·) h1
  | ⟨2, _⟩ => exact Nat.zero_add _
  | ⟨3, _⟩ => exact Nat.zero_add _

/-- A rectangle holds where its entries sit. -/
theorem emb_mem {S : Shape} (R : Rect S) (x : R.shape.Idx) (y : S.Idx) (h : R.emb x = y) : y ∈ R.set := h ▸ R.idx_mem x

/-- The block sums' block. -/
theorem P10_apply (H : Holds I b i B) (q : Fin 3) (j : Fin 8) (k : Fin 768) : View.canon (P10 i B) (ix4 0 q j k) = ((I.part q b j k : ℝ) : EReal) := by
  have hall : ∀ p ∈ P10 i B, ∀ x : p.1.shape.Idx, p.2 x = partArr I b (p.1.emb x) := by
    intro p hp
    rcases List.mem_append.mp hp with h | h
    · obtain ⟨n, rfl⟩ := mem_down _ _ _ _ h
      intro x
      refine Eq.trans ?_ (congrArg (partArr I b) (rectG_emb (gj n) (gk n) x)).symm
      obtain ⟨z0, z1, z2, c, rfl⟩ : ∃ (z0 z1 z2 : Fin 1) (c : Fin 128), x = ix4 z0 z1 z2 c := ⟨x 0, x 1, x 2, x 3, ValueIdx.eq_ix4 x⟩
      obtain rfl : z0 = 0 := Subsingleton.elim _ _
      obtain rfl : z1 = 0 := Subsingleton.elim _ _
      obtain rfl : z2 = 0 := Subsingleton.elim _ _
      exact gateTile_apply H (gj n) (gk n) c
    · rcases List.mem_cons.mp h with rfl | h
      · intro x
        refine Eq.trans ?_ (congrArg (partArr I b) (plane10_emb 1 x)).symm
        obtain ⟨z0, z1, j, c, rfl⟩ : ∃ (z0 z1 : Fin 1) (j : Fin 8) (c : Fin 768), x = ix4 z0 z1 j c := ⟨x 0, x 1, x 2, x 3, ValueIdx.eq_ix4 x⟩
        obtain rfl : z0 = 0 := Subsingleton.elim _ _
        obtain rfl : z1 = 0 := Subsingleton.elim _ _
        exact dscale_apply H j c
      · obtain rfl := List.mem_singleton.mp h
        intro x
        refine Eq.trans ?_ (congrArg (partArr I b) (plane10_emb 0 x)).symm
        obtain ⟨z0, z1, j, c, rfl⟩ : ∃ (z0 z1 : Fin 1) (j : Fin 8) (c : Fin 768), x = ix4 z0 z1 j c := ⟨x 0, x 1, x 2, x 3, ValueIdx.eq_ix4 x⟩
        obtain rfl : z0 = 0 := Subsingleton.elim _ _
        obtain rfl : z1 = 0 := Subsingleton.elim _ _
        exact dshift_apply H j c
  rw [← List.append_nil (P10 i B)]
  refine View.canon_append_of_pieces (Val := Elt Ideal) (e := .f32) (partArr I b) [] (P10 i B) hall (ix4 0 q j k) ?_
  match q with
  | ⟨0, _⟩ => exact ⟨_, List.mem_append_right _ (List.mem_cons_of_mem _ List.mem_cons_self), emb_mem _ _ _ (plane10_emb 0 (ix4 0 0 j k))⟩
  | ⟨1, _⟩ => exact ⟨_, List.mem_append_right _ List.mem_cons_self, emb_mem _ _ _ (plane10_emb 1 (ix4 0 0 j k))⟩
  | ⟨2, _⟩ =>
    have hm := down_mem (fun n => (⟨rectG (gj n) (gk n), gateTile B (gj n) (gk n)⟩ : View.Piece (Elt Ideal) S1x3x8x768 .f32)) 48 (Nat.le_refl _) (num10 j ⟨k.val / 128, by omega⟩) (Fin.isLt _)
    have hy : (rectG (gj (num10 j ⟨k.val / 128, by omega⟩)) (gk (num10 j ⟨k.val / 128, by omega⟩))).emb (ix4 0 0 0 (⟨k.val % 128, by omega⟩ : Fin 128)) = ix4 0 2 j k := by
      refine (rectG_emb _ _ _).trans ?_
      obtain ⟨e0, e1⟩ := num10_eq j ⟨k.val / 128, by omega⟩
      rw [e0, e1]
      exact congrArg (ix4 (n0 := 1) (n1 := 3) (n2 := 8) (n3 := 768) 0 2 j) (Fin.ext (by show 128 * (k.val / 128) + k.val % 128 = k.val; omega))
    exact ⟨_, List.mem_append_left _ hm, emb_mem _ _ _ hy⟩

/-- One of the three block sums, read back. -/
theorem back_apply (H : Holds I b i B) (q : Fin 3) (j : Fin 8) (k : Fin 768) : back i B q (ix4 0 0 j k) = ((I.part q b j k : ℝ) : EReal) := by
  unfold back
  rw [View.readCov_eq_canon']
  exact (congrArg (View.canon (P10 i B)) (plane10_emb q (ix4 0 0 j k))).trans (P10_apply H q j k)

/-- The sums over all blocks, in every row. -/
theorem total_apply (H : Holds I b i B) (q : Fin 3) (r : Fin 8) (k : Fin 768) : total (back i B q) (ix3 0 r k) = ((I.dmod q b k : ℝ) : EReal) := by
  pointwise [total]
  simp only [back_apply H, coe_sum]
  rfl

end Cert.Stages
-- ==== Proof.Given.lean ====
/- The precondition read: arguments that satisfy it are real arrays. -/
module

public import proofs.«01_k».proof.Pre_finite
public import proofs.«01_k».proof.Proof.Model
public import Idealize.ShloMosaic.Lib.Pointwise
public import Idealize.ShloMosaic.Lib.Pipeline.ValueKit

@[expose] public section

set_option maxRecDepth 16384

noncomputable section

namespace Cert.Given

open Cert.Model Idealize.ShloMosaic Cert.Pre_finite

/-- The side conditions of the precondition's operations. -/
theorem facts : Cert.Pre_finite.Facts := ⟨by decide, by decide, by decide, by decide, by decide⟩

/-- A byte other than the two NaNs of the four-bit-exponent format is a real number. -/
theorem real_e4m3 (b : BitVec 8) (h : IntOp.andi (IntOp.cmpi .ne b 127#8) (IntOp.cmpi .ne b 255#8) = 1#1) :
    ∃ r : ℝ, (FloatOps.ofBits .fp8e4m3 b : Ideal .fp8e4m3) = (r : EReal) := by
  have hb : ¬((b.extractLsb' 3 4).toNat = 15 ∧ (b.extractLsb' 0 3).toNat = 7) :=
    (by decide +kernel : ∀ b : BitVec 8, IntOp.andi (IntOp.cmpi .ne b 127#8) (IntOp.cmpi .ne b 255#8) = 1#1 →
      ¬((b.extractLsb' 3 4).toNat = 15 ∧ (b.extractLsb' 0 3).toNat = 7)) b h
  show ∃ r : ℝ, Ideal.e4m3fn b = (r : EReal)
  unfold Ideal.e4m3fn
  simp only [if_neg hb]
  split <;> exact ⟨_, rfl⟩

/-- A byte below the infinity of its sign, in the five-bit-exponent format, is a real number. -/
theorem real_e5m2 (b : BitVec 8) (h : IntOp.ori (IntOp.cmpi .ult b 124#8) (IntOp.andi (IntOp.cmpi .uge b 128#8) (IntOp.cmpi .ult b 252#8)) = 1#1) :
    ∃ r : ℝ, (FloatOps.ofBits .fp8e5m2 b : Ideal .fp8e5m2) = (r : EReal) := by
  have hb : ¬(b.extractLsb' 2 5).toNat = 2 ^ 5 - 1 :=
    (by decide +kernel : ∀ b : BitVec 8, IntOp.ori (IntOp.cmpi .ult b 124#8) (IntOp.andi (IntOp.cmpi .uge b 128#8) (IntOp.cmpi .ult b 252#8)) = 1#1 →
      ¬(b.extractLsb' 2 5).toNat = 2 ^ 5 - 1) b h
  show ∃ r : ℝ, Ideal.ieee 5 2 b = (r : EReal)
  unfold Ideal.ieee
  simp only [if_neg hb]
  split <;> exact ⟨_, rfl⟩

/-- An extended real that gives zero when it is taken from itself is a real number. -/
theorem real_sub (x : EReal) (h : BitVec.ofBool (decide (x - x = 0)) = 1#1) : ∃ r : ℝ, x = (r : EReal) := by
  have h : x - x = 0 := by
    by_contra hn
    simp [hn] at h
  induction x with
  | bot => exact absurd h (by simp)
  | top => exact absurd h (by simp)
  | coe r => exact ⟨r, rfl⟩

/-- The eight arguments, the codes as bytes, hold the real arrays of `I`. -/
structure Holds (I : Inputs) (a0 : IVec S112x1024x768 8) (a1 : FVec Ideal S112x1024 .f32) (a2 : FVec Ideal S112x1024x768 .bf16)
    (a3 : IVec S112x768x1024 8) (a4 : FVec Ideal S112x768x8 .f32) (a5 : IVec S112x768x1024 8) (a6 : FVec Ideal S112x768x8 .f32)
    (a7 : FVec Ideal S112x768 .f32) : Prop where
  x : ∀ b n k, (FloatOps.ofBits .fp8e4m3 (a0 (ix3 b n k)) : Ideal .fp8e4m3) = ((I.x b n k : ℝ) : EReal)
  xs : ∀ b n, a1 (ix2 b n) = ((I.xs b n : ℝ) : EReal)
  f : ∀ b n k, a2 (ix3 b n k) = ((I.f b n k : ℝ) : EReal)
  dy : ∀ b k n, (FloatOps.ofBits .fp8e5m2 (a3 (ix3 b k n)) : Ideal .fp8e5m2) = ((I.dy b k n : ℝ) : EReal)
  sy : ∀ b k j, a4 (ix3 b k j) = ((I.sy b k j : ℝ) : EReal)
  dh : ∀ b k n, (FloatOps.ofBits .fp8e5m2 (a5 (ix3 b k n)) : Ideal .fp8e5m2) = ((I.dh b k n : ℝ) : EReal)
  sh : ∀ b k j, a6 (ix3 b k j) = ((I.sh b k j : ℝ) : EReal)
  mod : ∀ b k, a7 (ix2 b k) = ((I.mod b k : ℝ) : EReal)

variable [Cert.Pre_finite.Facts]

/-- Arguments that satisfy the precondition hold some real arrays. -/
theorem exists_holds (a0 : IVec S112x1024x768 8) (a1 : FVec Ideal S112x1024 .f32) (a2 : FVec Ideal S112x1024x768 .bf16)
    (a3 : IVec S112x768x1024 8) (a4 : FVec Ideal S112x768x8 .f32) (a5 : IVec S112x768x1024 8) (a6 : FVec Ideal S112x768x8 .f32)
    (a7 : FVec Ideal S112x768 .f32)
    (h0 : (fn (F := Ideal) a0 a1 a2 a3 a4 a5 a6 a7).1 = fun _ => 1#1) (h1 : (fn (F := Ideal) a0 a1 a2 a3 a4 a5 a6 a7).2.1 = fun _ => 1#1)
    (h2 : (fn (F := Ideal) a0 a1 a2 a3 a4 a5 a6 a7).2.2.1 = fun _ => 1#1) (h3 : (fn (F := Ideal) a0 a1 a2 a3 a4 a5 a6 a7).2.2.2.1 = fun _ => 1#1)
    (h4 : (fn (F := Ideal) a0 a1 a2 a3 a4 a5 a6 a7).2.2.2.2.1 = fun _ => 1#1) (h5 : (fn (F := Ideal) a0 a1 a2 a3 a4 a5 a6 a7).2.2.2.2.2.1 = fun _ => 1#1)
    (h6 : (fn (F := Ideal) a0 a1 a2 a3 a4 a5 a6 a7).2.2.2.2.2.2.1 = fun _ => 1#1) (h7 : (fn (F := Ideal) a0 a1 a2 a3 a4 a5 a6 a7).2.2.2.2.2.2.2 = fun _ => 1#1) :
    ∃ I, Holds I a0 a1 a2 a3 a4 a5 a6 a7 := by
  have bx : ∀ b n k, ∃ r : ℝ, (FloatOps.ofBits .fp8e4m3 (a0 (ix3 b n k)) : Ideal .fp8e4m3) = (r : EReal) := fun b n k => by
    have := congrFun h0 (ix3 b n k)
    pointwise [fn, fn_part1, fn_part2] at this
    exact real_e4m3 _ this
  have bxs : ∀ b n, ∃ r : ℝ, a1 (ix2 b n) = (r : EReal) := fun b n => by
    have := congrFun h1 (ix2 b n)
    pointwise [fn, fn_part1, fn_part2] at this
    exact real_sub _ this
  have bf : ∀ b n k, ∃ r : ℝ, a2 (ix3 b n k) = (r : EReal) := fun b n k => by
    have := congrFun h2 (ix3 b n k)
    pointwise [fn, fn_part1, fn_part2] at this
    exact real_sub _ this
  have bdy : ∀ b k n, ∃ r : ℝ, (FloatOps.ofBits .fp8e5m2 (a3 (ix3 b k n)) : Ideal .fp8e5m2) = (r : EReal) := fun b k n => by
    have := congrFun h3 (ix3 b k n)
    pointwise [fn, fn_part1, fn_part2] at this
    exact real_e5m2 _ this
  have bsy : ∀ b k j, ∃ r : ℝ, a4 (ix3 b k j) = (r : EReal) := fun b k j => by
    have := congrFun h4 (ix3 b k j)
    pointwise [fn, fn_part1, fn_part2] at this
    exact real_sub _ this
  have bdh : ∀ b k n, ∃ r : ℝ, (FloatOps.ofBits .fp8e5m2 (a5 (ix3 b k n)) : Ideal .fp8e5m2) = (r : EReal) := fun b k n => by
    have := congrFun h5 (ix3 b k n)
    pointwise [fn, fn_part1, fn_part2] at this
    exact real_e5m2 _ this
  have bsh : ∀ b k j, ∃ r : ℝ, a6 (ix3 b k j) = (r : EReal) := fun b k j => by
    have := congrFun h6 (ix3 b k j)
    pointwise [fn, fn_part1, fn_part2] at this
    exact real_sub _ this
  have bmod : ∀ b k, ∃ r : ℝ, a7 (ix2 b k) = (r : EReal) := fun b k => by
    have := congrFun h7 (ix2 b k)
    pointwise [fn, fn_part1, fn_part2] at this
    exact real_sub _ this
  choose vx ex using bx
  choose vxs exs using bxs
  choose vf ef using bf
  choose vdy edy using bdy
  choose vsy esy using bsy
  choose vdh edh using bdh
  choose vsh esh using bsh
  choose vmod emod using bmod
  exact ⟨⟨vx, vxs, vf, vdy, vsy, vdh, vsh, vmod⟩, ⟨ex, exs, ef, edy, esy, edh, esh, emod⟩⟩

end Cert.Given

end
-- ==== Proof.Results.lean ====
/- The three results as arrays. -/
module

public import proofs.«01_k».proof.Proof.Model
public import Idealize.ShloMosaic.Lib.Pipeline.ValueKit

@[expose] public section

noncomputable section

namespace Cert.Results

open Cert.Model Idealize.ShloMosaic

/-- Result 1: the gradient to the activations. -/
def dx (I : Inputs) : Vec Ideal ⟨3, ![112, 1024, 768]⟩ .bf16 := fun y => ((I.dx (y 0) (y 1) (y 2) : ℝ) : EReal)

/-- Result 2: the gradient to shift, scale and gate, summed over the tokens. -/
def dmod (I : Inputs) : Vec Ideal ⟨3, ![3, 112, 768]⟩ .f32 := fun y => ((I.dmod (y 0) (y 1) (y 2) : ℝ) : EReal)

/-- Result 3: the same gradient, a sum to each block of tokens. -/
def part (I : Inputs) : Vec Ideal ⟨4, ![112, 3, 8, 768]⟩ .f32 := fun y => ((I.part (y 1) (y 0) (y 2) (y 3) : ℝ) : EReal)

end Cert.Results

end
-- ==== Proof.KernelArrays.lean ====
/- The kernel's three result arrays after its run. -/
module

public import proofs.«01_k».proof.Proof.Exact
public import proofs.«01_k».proof.Proof.Tiles
public import proofs.«01_k».proof.Proof.Given
public import proofs.«01_k».proof.Proof.Results
public import Idealize.ShloMosaic.Lib.Pipeline.ArrRel

@[expose] public section

set_option maxRecDepth 16384

noncomputable section

namespace Cert.KernelArrays

open Cert.KernelIdeal Cert.KernelIdeal.Gen Cert.Model Idealize.ShloMosaic Idealize.ShloMosaic.TcCoe Idealize.SL.Sem

variable (m : (ℓ : Loc nD τ sig) → Buf (Elt Ideal) ℓ)

/-- Where each window's block stands at each grid point: at the sample, or at the sample's group of eight. -/
theorem idx : ∀ t : Fin cfg0.N, win0_0.index t = ![t.val, 0, 0] ∧ win0_1.index t = ![t.val / 8, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val / 8, 0]
    ∧ win0_8.index t = ![t.val, 0, 0] ∧ win0_9.index t = ![0, t.val / 8, 0] ∧ win0_10.index t = ![t.val, 0, 0, 0] :=
  (by decide +kernel : ∀ t : Fin grid0.N, win0_0.index t = ![t.val, 0, 0] ∧ win0_1.index t = ![t.val / 8, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val / 8, 0]
    ∧ win0_8.index t = ![t.val, 0, 0] ∧ win0_9.index t = ![0, t.val / 8, 0] ∧ win0_10.index t = ![t.val, 0, 0, 0])

/-- Core `c`'s arguments hold the real arrays of `I`. -/
abbrev At (I : Inputs) (c : Dev nD) : Prop :=
  Given.Holds I (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The scales of the gradient to the branch at point `t`: sample `t`'s, a row to a block of tokens. -/
theorem scales4 (c : Dev nD) (t : Fin cfg0.N) (b : Fin 112) (hb : t.val = b.val) (j : Fin 8) (k : Fin 768) :
    iblk m c 4 t (ix3 0 j k) = m ((c : Thread nD τ).loc main_arg4) (ix3 b k j) := by
  unfold iblk
  blk_simp [idx t]
  entry_read
  pointwise
  blk_ext [idx t]

/-- The scales of the gradient to the normalised activations at point `t`, the same. -/
theorem scales6 (c : Dev nD) (t : Fin cfg0.N) (b : Fin 112) (hb : t.val = b.val) (j : Fin 8) (k : Fin 768) :
    iblk m c 6 t (ix3 0 j k) = m ((c : Thread nD τ).loc main_arg6) (ix3 b k j) := by
  unfold iblk
  blk_simp [idx t]
  entry_read
  pointwise
  blk_ext [idx t]

variable {m} {I : Inputs} {c : Dev nD}

/-- So do the blocks that the body reads at point `t`: those of sample `t`, and the eight rows of `t`'s group for the two arguments
    with a row to a sample. -/
theorem holds (H : At m I c) (t : Fin cfg0.N) (b : Fin 112) (hb : t.val = b.val) : Stages.Holds I b (grid0.coords t) (bufs m c t) where
  at_b := (coords_val t).trans hb
  x n k := by
    refine Eq.trans ?_ (H.x b n k)
    show iblk m c 0 t _ = _
    blk_ext [iblk, idx t]
  xs r n hr := by
    refine Eq.trans ?_ (H.xs b n)
    show iblk m c 1 t _ = _
    blk_ext [iblk, V, idx t]
  f n k := by
    refine Eq.trans ?_ (H.f b n k)
    show iblk m c 2 t _ = _
    blk_ext [iblk, V, idx t]
  dy k n := by
    refine Eq.trans ?_ (H.dy b k n)
    show iblk m c 3 t _ = _
    blk_ext [iblk, idx t]
  sy j k := by
    exact (scales4 m c t b hb j k).trans (H.sy b k j)
  dh k n := by
    refine Eq.trans ?_ (H.dh b k n)
    show iblk m c 5 t _ = _
    blk_ext [iblk, idx t]
  sh j k := by
    exact (scales6 m c t b hb j k).trans (H.sh b k j)
  mod r k hr := by
    refine Eq.trans ?_ (H.mod b k)
    show iblk m c 7 t _ = _
    blk_ext [iblk, V, idx t]

variable (m)

/-- The block of the first result that point `t` leaves. -/
theorem outs8 (c : Dev nD) (t : Fin cfg0.N) : (outsAt0 m c t).1 = View.canon (Stages.P8 (grid0.coords t) (bufs m c t)) := by
  have e : (outsAt0 m c t).1 = VO0_8.read (Elt Ideal) (VO0_8.writes (Elt Ideal) VO0_8.junk (Stages.P8 (grid0.coords t) (bufs m c t))) := by sl_kernel_rfl
  rw [e, View.read_writes_junk_eq_canon]

/-- The block of the third result that point `t` leaves. -/
theorem outs10 (c : Dev nD) (t : Fin cfg0.N) : (outsAt0 m c t).2.2 = View.canon (Stages.P10 (grid0.coords t) (bufs m c t)) := by
  have e : (outsAt0 m c t).2.2 = VO0_10.read (Elt Ideal) (VO0_10.writes (Elt Ideal) VO0_10.junk (Stages.P10 (grid0.coords t) (bufs m c t))) := by sl_kernel_rfl
  rw [e, View.read_writes_junk_eq_canon]

variable {m}

/-- What a window of exact contents leaves when it is written back. -/
theorem leaves_exact (w : Fin cfg0.W) (t : Fin cfg0.N) (h : fgt0 w = false) (hf : (cfg0.win w).flush t = true) (hl : cfg0.loose w = false)
    {X : (cfg0.win w).block.Idx → Elt Ideal (cfg0.win w).elt} (hX : (rdat0 m c).Leaves w t X) : X = (dats m 0 c).after w t := by
  obtain ⟨Y, -, hX⟩ := hX
  unfold rdat0 at hX
  rw [Pipeline.Dat.toRRel_after_of_eq_false _ h] at hX
  have hX : (dats m 0 c).Leaves w t X := hX
  rw [Pipeline.Dat.Leaves.live_iff _ (.inr hf)] at hX
  rw [hl] at hX
  exact hX

/-- An index of a block of one sample, rank three. -/
theorem eq_ix3_zero (y : S1x1024x768.Idx) : y = ix3 (0 : Fin 1) (y 1) (y 2) :=
  (ValueIdx.eq_ix3 y).trans (congrArg (fun z : Fin 1 => ix3 z (y 1) (y 2)) (Subsingleton.elim (α := Fin 1) (y 0) 0))

/-- An index of a block of one sample, rank four. -/
theorem eq_ix4_zero (y : S1x3x8x768.Idx) : y = ix4 (0 : Fin 1) (y 1) (y 2) (y 3) :=
  (ValueIdx.eq_ix4 y).trans (congrArg (fun z : Fin 1 => ix4 z (y 1) (y 2) (y 3)) (Subsingleton.elim (α := Fin 1) (y 0) 0))

/-- The first result array. -/
theorem arr8 (H : At m I c) (after : (w : Fin cfg0.W) → Fin cfg0.N → (cfg0.win w).block.Idx → Elt Ideal (cfg0.win w).elt)
    (ha : ∀ (w : Fin cfg0.W) (u : Fin cfg0.N), (cfg0.win w).flush u = true → (rdat0 m c).Leaves w u (after w u)) :
    ((rdat0 m c).withAfter after).arrAt 8 cfg0.N = Results.dx I := by
  refine ((rdat0 m c).withAfter after).arrAt_eq_of_covers 8 _ (by decide +kernel) fun t hf y => ?_
  have e : ((rdat0 m c).withAfter after).after 8 t = View.canon (Stages.P8 (grid0.coords t) (bufs m c t)) :=
    (leaves_exact 8 t rfl hf rfl (ha 8 t hf)).trans ((after0_8 m c t).trans (outs8 m c t))
  blk_simp
  rw [e]
  obtain ⟨n, k, rfl⟩ : ∃ n k, y = (ix3 0 n k : S1x1024x768.Idx) :=
    ⟨_, _, eq_ix3_zero y⟩
  refine (Stages.P8_apply (holds H t ⟨t.val, t.isLt⟩ rfl) n k).trans ?_
  refine Eq.trans (b := Results.dx I (ix3 ⟨t.val, t.isLt⟩ n k)) rfl ?_
  blk_ext [idx t]

/-- The third result array. -/
theorem arr10 (H : At m I c) (after : (w : Fin cfg0.W) → Fin cfg0.N → (cfg0.win w).block.Idx → Elt Ideal (cfg0.win w).elt)
    (ha : ∀ (w : Fin cfg0.W) (u : Fin cfg0.N), (cfg0.win w).flush u = true → (rdat0 m c).Leaves w u (after w u)) :
    ((rdat0 m c).withAfter after).arrAt 10 cfg0.N = Results.part I := by
  refine ((rdat0 m c).withAfter after).arrAt_eq_of_covers 10 _ (by decide +kernel) fun t hf y => ?_
  have e : ((rdat0 m c).withAfter after).after 10 t = View.canon (Stages.P10 (grid0.coords t) (bufs m c t)) :=
    (leaves_exact 10 t rfl hf rfl (ha 10 t hf)).trans ((after0_10 m c t).trans (outs10 m c t))
  blk_simp
  rw [e]
  obtain ⟨q, j, k, rfl⟩ : ∃ q j k, y = (ix4 0 q j k : S1x3x8x768.Idx) :=
    ⟨_, _, _, eq_ix4_zero y⟩
  refine (Stages.P10_apply (holds H t ⟨t.val, t.isLt⟩ rfl) q j k).trans ?_
  refine Eq.trans (b := Results.part I (ix4 ⟨t.val, t.isLt⟩ q j k)) rfl ?_
  blk_ext [idx t]

/-- The pipeline has one point to a sample. -/
theorem N_eq : cfg0.N = 112 := by decide +kernel

/-- The row that point `t` writes in its group's block of sums: sample `t`'s. -/
theorem row9 (H : At m I c) (t : Fin cfg0.N) (b : Fin 112) (hb : t.val = b.val) (q : Fin 3) (r : Fin 8) (k : Fin 768) (hr : r.val = t.val % 8)
    (d : Vec Ideal S3x8x768 .f32) : (outsAt0 m c t).2.1 d (ix3 q r k) = ((I.dmod q b k : ℝ) : EReal) := by
  have hm := (Stages.mine_eq (grid0.coords t) r k).mpr (by rw [coords_val]; exact hr)
  exact (congrFun (outs9 m c t d) _).trans ((Stages.left9_apply (grid0.coords t) (bufs m c t) d q r k).trans
    ((if_pos hm).trans (Stages.total_apply (holds H t b hb) q r k)))

/-- The second result array. -/
theorem arr9 (H : At m I c) (after : (w : Fin cfg0.W) → Fin cfg0.N → (cfg0.win w).block.Idx → Elt Ideal (cfg0.win w).elt)
    (ha : ∀ (w : Fin cfg0.W) (u : Fin cfg0.N), (cfg0.win w).flush u = true → (rdat0 m c).Leaves w u (after w u)) :
    ((rdat0 m c).withAfter after).arrAt 9 cfg0.N = Results.dmod I := by
  refine ((rdat0 m c).withAfter after).arrAt_eq_of_covers 9 _ (by decide +kernel) fun t hf y => ?_
  have h9 : Rl9 m c t (after 9 t) := Pipeline.Dat.toRRel_leaves (fgt := fgt0) (Rl := Rl0 m c) (dats m 0 c) rfl (ha 9 t hf)
  obtain ⟨q, r, k, rfl⟩ : ∃ q r k, y = (ix3 q r k : S3x8x768.Idx) := ⟨_, _, _, ValueIdx.eq_ix3 (y : S3x8x768.Idx)⟩
  have ht : t.val < 112 := lt_of_lt_of_eq t.isLt N_eq
  have hr : r.val < 8 := r.isLt
  have hs : 8 * (t.val / 8) + r.val < cfg0.N := lt_of_lt_of_eq (show _ < 112 by omega) N_eq.symm
  have hv := (h9 ⟨8 * (t.val / 8) + r.val, hs⟩ (by have := (flush0_9 t).mp hf; dsimp only; omega) (by dsimp only; omega) (fun _ => 0) (ix3 q r k)
    (by show r.val = _; dsimp only; omega)).trans (row9 H ⟨8 * (t.val / 8) + r.val, hs⟩ ⟨8 * (t.val / 8) + r.val, hs⟩ rfl q r k (by dsimp only; omega) _)
  blk_simp
  refine hv.trans ?_
  refine Eq.trans (b := Results.dmod I (ix3 q ⟨8 * (t.val / 8) + r.val, hs⟩ k)) rfl ?_
  blk_ext [idx t]

/-- The kernel's run on arguments that hold real arrays: the three results are the formulas' arrays. -/
theorem run (ρ : Dev nD → PrngReg) (I : Dev nD → Inputs) (H : ∀ c, At m (I c) c) :
    θ_run defs (onTc (τ := τ) (main (F := Ideal))) ⟨m, fun _ => 0, ρ⟩ fun r => ∀ c : Dev nD,
      r.2.mem ((c : Thread nD τ).loc main_v5_0) = Results.dx (I c)
      ∧ r.2.mem ((c : Thread nD τ).loc main_v5_1) = Results.dmod (I c)
      ∧ r.2.mem ((c : Thread nD τ).loc main_v5_2) = Results.part (I c) := by
  refine (θ_run defs _ _).mono (fun r h c => ?_) (run_main m ρ)
  obtain ⟨after, ha, hA⟩ := Pipeline.RDat.FramePost.exists_exact h c
  exact ⟨(hA 8).trans (arr8 (H c) after ha), (hA 9).trans (arr9 (H c) after ha), (hA 10).trans (arr10 (H c) after ha)⟩

end Cert.KernelArrays

end
-- ==== Proof.RefValue.lean ====
/- What the reference computes on finite arguments: every value of its body, over the real numbers. -/
module

public import proofs.«01_k».proof.Proof.Gen.ReferenceIdeal.Value
public import proofs.«01_k».proof.Proof.Model
public import Idealize.ShloMosaic.Lib.Pointwise
public import Idealize.ShloMosaic.Lib.Pipeline.ValueKit

@[expose] public section

set_option maxRecDepth 16384

noncomputable section

namespace Cert.RefValue

open Cert.ReferenceIdeal Cert.ReferenceIdeal.Gen Cert.Model Cert.Consts Idealize.ShloMosaic

/-- The eight arguments hold the real arrays of `I`. -/
structure Holds (I : Inputs) (x0 : Vec Ideal S112x1024x768 .fp8e4m3) (x1 : Vec Ideal S112x1024 .f32) (x2 : Vec Ideal S112x1024x768 .bf16)
    (x3 : Vec Ideal S112x768x1024 .fp8e5m2) (x4 : Vec Ideal S112x768x8 .f32) (x5 : Vec Ideal S112x768x1024 .fp8e5m2) (x6 : Vec Ideal S112x768x8 .f32)
    (x7 : Vec Ideal S112x768 .f32) : Prop where
  x : ∀ b n k, x0 (ix3 b n k) = ((I.x b n k : ℝ) : EReal)
  xs : ∀ b n, x1 (ix2 b n) = ((I.xs b n : ℝ) : EReal)
  f : ∀ b n k, x2 (ix3 b n k) = ((I.f b n k : ℝ) : EReal)
  dy : ∀ b k n, x3 (ix3 b k n) = ((I.dy b k n : ℝ) : EReal)
  sy : ∀ b k j, x4 (ix3 b k j) = ((I.sy b k j : ℝ) : EReal)
  dh : ∀ b k n, x5 (ix3 b k n) = ((I.dh b k n : ℝ) : EReal)
  sh : ∀ b k j, x6 (ix3 b k j) = ((I.sh b k j : ℝ) : EReal)
  mod : ∀ b k, x7 (ix2 b k) = ((I.mod b k : ℝ) : EReal)

variable {I : Inputs} {x0 : Vec Ideal S112x1024x768 .fp8e4m3} {x1 : Vec Ideal S112x1024 .f32} {x2 : Vec Ideal S112x1024x768 .bf16}
  {x3 : Vec Ideal S112x768x1024 .fp8e5m2} {x4 : Vec Ideal S112x768x8 .f32} {x5 : Vec Ideal S112x768x1024 .fp8e5m2} {x6 : Vec Ideal S112x768x8 .f32}
  {e : EltTy} {x7 : Vec Ideal S112x768 .f32} (H : Holds I x0 x1 x2 x3 x4 x5 x6 x7)

/-- The centred activations. -/
theorem centred (H : Holds I x0 x1 x2 x3 x4 x5 x6 x7) (b : Fin 112) (k : Fin 768) (n : Fin 1024) :
    k0_pay6 (F := Ideal) x0 x1 (ix3 b k n) = ((I.x b n k * I.xs b n - (I.token b n).mu : ℝ) : EReal) := by
  pointwise [k0_pay6]
  simp only [Ideal.subf_def, Ideal.mulf_def, Ideal.divf_def, Ideal.extf_def, Ideal.ofBits_def, H.x, H.xs, ofBits_768, ← EReal.coe_mul, coe_sum, div_768, ← EReal.coe_sub]
  rfl

/-- The reciprocal of the standard deviation. -/
theorem rstd (H : Holds I x0 x1 x2 x3 x4 x5 x6 x7) (b : Fin 112) (n : Fin 1024) :
    k0_pay7 (F := Ideal) x0 x1 (ix3 b 0 n) = (((I.token b n).rstd : ℝ) : EReal) := by
  pointwise [k0_pay7]
  simp only [Ideal.addf_def, Ideal.mulf_def, Ideal.divf_def, Ideal.rsqrt_def, Ideal.ofBits_def, centred H, ofBits_768, ofBits_eps, ← EReal.coe_mul, coe_sum, div_768, ← EReal.coe_add]
  exact rsqrt_pos (I.v_pos b n)

/-- The normalised activations. -/
theorem xhat (H : Holds I x0 x1 x2 x3 x4 x5 x6 x7) (b : Fin 112) (k : Fin 768) (n : Fin 1024) :
    k0_pay8 (F := Ideal) (k0_pay6 x0 x1) (k0_pay7 x0 x1) (ix3 b k n) = (((I.token b n).xhat k : ℝ) : EReal) := by
  pointwise [k0_pay8]
  simp only [Ideal.mulf_def, centred H, rstd H, ← EReal.coe_mul]
  rfl

/-- The gradient to the branch, block by block. -/
theorem dy4 (H : Holds I x0 x1 x2 x3 x4 x5 x6 x7) (b : Fin 112) (k : Fin 768) (j : Fin 8) (l : Fin 128) :
    k0_pay4 (F := Ideal) x3 x4 (ix4 b k j l) = ((I.dy b k (tok j l) * I.sy b k j : ℝ) : EReal) := by
  pointwise [k0_pay4]
  simp only [Ideal.mulf_def, Ideal.extf_def, H.dy, H.sy, ← EReal.coe_mul]
  rfl

/-- The gradient to the modulated activations, block by block. -/
theorem dh4 (H : Holds I x0 x1 x2 x3 x4 x5 x6 x7) (b : Fin 112) (k : Fin 768) (j : Fin 8) (l : Fin 128) :
    k0_pay5 (F := Ideal) x5 x6 (ix4 b k j l) = ((I.dh b k (tok j l) * I.sh b k j : ℝ) : EReal) := by
  pointwise [k0_pay5]
  simp only [Ideal.mulf_def, Ideal.extf_def, H.dh, H.sh, ← EReal.coe_mul]
  rfl

/-- The gradient to the shift, block by block. -/
theorem dshift (H : Holds I x0 x1 x2 x3 x4 x5 x6 x7) (b : Fin 112) (j : Fin 8) (k : Fin 768) :
    k0_pay9 (F := Ideal) (k0_pay5 x5 x6) (ix3 b j k) = ((I.dshift b j k : ℝ) : EReal) := by
  pointwise [k0_pay9]
  simp only [dh4 H, coe_sum]
  rfl

/-- The gradient to the scale, block by block. -/
theorem dscale (H : Holds I x0 x1 x2 x3 x4 x5 x6 x7) (b : Fin 112) (j : Fin 8) (k : Fin 768) :
    k0_pay12 (F := Ideal) (k0_pay5 x5 x6) (k0_pay6 x0 x1) (k0_pay7 x0 x1) (ix3 b j k) = ((I.dscale b j k : ℝ) : EReal) := by
  pointwise [k0_pay12]
  simp only [Ideal.mulf_def, dh4 H, xhat H, ← EReal.coe_mul, coe_sum]
  rfl

/-- The gradient to the gate, block by block. -/
theorem dgate (H : Holds I x0 x1 x2 x3 x4 x5 x6 x7) (b : Fin 112) (j : Fin 8) (k : Fin 768) :
    k0_pay15 (F := Ideal) (k0_pay4 x3 x4) x2 (ix3 b j k) = ((I.dgate b j k : ℝ) : EReal) := by
  pointwise [k0_pay15]
  simp only [Ideal.mulf_def, Ideal.extf_def, dy4 H, H.f, ← EReal.coe_mul, coe_sum]
  rfl

/-- A block and a token of it, from the token. -/
theorem tok_div_mod (n : Fin 1024) (h1 : n.val / 128 < 8) (h2 : n.val % 128 < 128) : tok ⟨n.val / 128, h1⟩ ⟨n.val % 128, h2⟩ = n := by
  apply Fin.ext; show n.val / 128 * 128 + n.val % 128 = n.val; omega

/-- The gradient to the activations. -/
theorem dx (H : Holds I x0 x1 x2 x3 x4 x5 x6 x7) (b : Fin 112) (n : Fin 1024) (k : Fin 768) :
    k0_pay3 (F := Ideal) (k0_pay4 x3 x4) (k0_pay5 x5 x6) (k0_pay7 x0 x1) (k0_pay8 (k0_pay6 x0 x1) (k0_pay7 x0 x1)) x7 (ix3 b n k) = ((I.dx b n k : ℝ) : EReal) := by
  pointwise [k0_pay3]
  simp only [Ideal.subf_def, Ideal.mulf_def, Ideal.addf_def, Ideal.divf_def, Ideal.truncf_def, Ideal.ofBits_def, dy4 H, dh4 H, rstd H, xhat H, H.mod,
    ofBits_768, ofBits_one, ← EReal.coe_one, ← EReal.coe_mul, ← EReal.coe_add, ← EReal.coe_sub, coe_sum, div_768, tok_div_mod]
  rfl

/-! ## The three results -/

/-- A load of a whole argument is the argument. -/
theorem ld0 (x : Vec Ideal S112x1024x768 e) : View.ld x r0_0 = x := View.ld_unit_lit _ x (by decide)
/-- A load of a whole argument is the argument. -/
theorem ld1 (x : Vec Ideal S112x1024 e) : View.ld x r0_1 = x := View.ld_unit_lit _ x (by decide)
/-- A load of a whole argument is the argument. -/
theorem ld2 (x : Vec Ideal S112x768x1024 e) : View.ld x r0_2 = x := View.ld_unit_lit _ x (by decide)
/-- A load of a whole argument is the argument. -/
theorem ld3 (x : Vec Ideal S112x768x8 e) : View.ld x r0_3 = x := View.ld_unit_lit _ x (by decide)
/-- A load of a whole argument is the argument. -/
theorem ld4 (x : Vec Ideal S112x768 e) : View.ld x r0_10 = x := View.ld_unit_lit _ x (by decide)

/-- The reference's gradient to the activations. -/
theorem out8 (H : Holds I x0 x1 x2 x3 x4 x5 x6 x7) (b : Fin 112) (n : Fin 1024) (k : Fin 768) :
    out0_8 (F := Ideal) x0 x1 x2 x3 x4 x5 x6 x7 (ix3 b n k) = ((I.dx b n k : ℝ) : EReal) := by
  unfold out0_8 k0_pay19 k0_pay18 k0_pay17 k0_pay16
  simp only [ld0, ld1, ld2, ld3, ld4]
  rw [View.canon_cons_unit_lit _ _ _ (by decide)]
  exact dx H b n k

/-- The first index of a product of three outputs. -/
theorem eq_two {q : Fin 3} {n m : ℕ} (h : q.val = n + m) (hm : m < 1) (hn : n < 3) : q = ⟨n, hn⟩ := Fin.ext (by show q.val = n; omega)

/-- The sums over all blocks. -/
theorem out9 (H : Holds I x0 x1 x2 x3 x4 x5 x6 x7) (q : Fin 3) (b : Fin 112) (k : Fin 768) :
    out0_9 (F := Ideal) x0 x1 x2 x3 x4 x5 x6 x7 (ix3 q b k) = ((I.dmod q b k : ℝ) : EReal) := by
  unfold out0_9 k0_pay20 k0_pay19 k0_pay18 k0_pay17 k0_pay16
  simp only [ld0, ld1, ld2, ld3, ld4]
  canon_tiles x h
  · obtain rfl : q = 2 := eq_two (n := 2) h0 x0_lt (by decide)
    idx_vars x
    obtain rfl : b = _ := Fin.ext h1
    obtain rfl : k = _ := Fin.ext h2
    pointwise [k0_pay2]
    simp only [dgate H, coe_sum]; rfl
  · obtain rfl : q = 1 := eq_two (n := 1) h0 x0_lt (by decide)
    idx_vars x
    obtain rfl : b = _ := Fin.ext h1
    obtain rfl : k = _ := Fin.ext h2
    pointwise [k0_pay14]
    simp only [dscale H, coe_sum]; rfl
  · obtain rfl : q = 0 := eq_two (n := 0) (by rw [Nat.zero_add]; exact h0) x0_lt (by decide)
    idx_vars x
    obtain rfl : b = _ := Fin.ext h1
    obtain rfl : k = _ := Fin.ext h2
    pointwise [k0_pay11]
    simp only [dshift H, coe_sum]; rfl

/-- The per-block sums: the single-block gradients of shift, scale and gate. -/
theorem out10 (H : Holds I x0 x1 x2 x3 x4 x5 x6 x7) (b : Fin 112) (q : Fin 3) (j : Fin 8) (k : Fin 768) :
    out0_10 (F := Ideal) x0 x1 x2 x3 x4 x5 x6 x7 (ix4 b q j k) = ((I.part q b j k : ℝ) : EReal) := by
  unfold out0_10 k0_pay20 k0_pay19 k0_pay18 k0_pay17 k0_pay16
  simp only [ld0, ld1, ld2, ld3, ld4]
  canon_tiles x h
  · obtain rfl : q = 2 := eq_two (n := 2) h1 x1_lt (by decide)
    idx_vars x
    obtain rfl : b = _ := Fin.ext h0
    obtain rfl : j = _ := Fin.ext h2
    obtain rfl : k = _ := Fin.ext h3
    pointwise [k0_pay1]
    rw [dgate H]; rfl
  · obtain rfl : q = 1 := eq_two (n := 1) h1 x1_lt (by decide)
    idx_vars x
    obtain rfl : b = _ := Fin.ext h0
    obtain rfl : j = _ := Fin.ext h2
    obtain rfl : k = _ := Fin.ext h3
    pointwise [k0_pay13]
    rw [dscale H]; rfl
  · obtain rfl : q = 0 := eq_two (n := 0) (by rw [Nat.zero_add]; exact h1) x1_lt (by decide)
    idx_vars x
    obtain rfl : b = _ := Fin.ext h0
    obtain rfl : j = _ := Fin.ext h2
    obtain rfl : k = _ := Fin.ext h3
    pointwise [k0_pay10]
    rw [dshift H]; rfl

end Cert.RefValue

end
-- ==== Proof.RefArrays.lean ====
/- The reference's three result arrays after its run. -/
module

public import proofs.«01_k».proof.Proof.RefValue
public import proofs.«01_k».proof.Proof.Given
public import proofs.«01_k».proof.Proof.Results
public import proofs.«01_k».proof.Proof.Gen.ReferenceIdeal.Value

@[expose] public section

set_option maxRecDepth 16384

noncomputable section

namespace Cert.RefArrays

open Cert.ReferenceIdeal Cert.ReferenceIdeal.Gen Cert.Model Idealize.ShloMosaic Idealize.ShloMosaic.TcCoe Idealize.SL.Sem

variable (m : (ℓ : Loc nD τ sig) → Buf (Elt Ideal) ℓ)

/-- Every window's one block starts at the array's origin. -/
theorem idx : ∀ t : Fin cfg0.N, win0_0.index t = (fun _ => 0) ∧ win0_1.index t = (fun _ => 0) ∧ win0_2.index t = (fun _ => 0) ∧ win0_3.index t = (fun _ => 0)
    ∧ win0_4.index t = (fun _ => 0) ∧ win0_5.index t = (fun _ => 0) ∧ win0_6.index t = (fun _ => 0) ∧ win0_7.index t = (fun _ => 0)
    ∧ win0_8.index t = (fun _ => 0) ∧ win0_9.index t = (fun _ => 0) ∧ win0_10.index t = (fun _ => 0) :=
  (by decide +kernel : ∀ t : Fin grid0.N, win0_0.index t = (fun _ => 0) ∧ win0_1.index t = (fun _ => 0) ∧ win0_2.index t = (fun _ => 0) ∧ win0_3.index t = (fun _ => 0)
    ∧ win0_4.index t = (fun _ => 0) ∧ win0_5.index t = (fun _ => 0) ∧ win0_6.index t = (fun _ => 0) ∧ win0_7.index t = (fun _ => 0)
    ∧ win0_8.index t = (fun _ => 0) ∧ win0_9.index t = (fun _ => 0) ∧ win0_10.index t = (fun _ => 0))

/-- Core `c`'s arguments hold the real arrays of `I`. -/
abbrev At (I : Inputs) (c : Dev nD) : Prop :=
  Given.Holds I (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable {m} {I : Inputs} {c : Dev nD}

/-- So do the blocks that the body reads. -/
theorem holds (H : At m I c) (t : Fin cfg0.N) : RefValue.Holds I (iblk m c 0 t) (iblk m c 1 t) (iblk m c 2 t) (iblk m c 3 t) (iblk m c 4 t) (iblk m c 5 t)
    (iblk m c 6 t) (iblk m c 7 t) where
  x b n k := by
    refine Eq.trans ?_ (H.x b n k)
    blk_ext [iblk, idx t]
  xs b n := by
    refine Eq.trans ?_ (H.xs b n)
    blk_ext [iblk, V, idx t]
  f b n k := by
    refine Eq.trans ?_ (H.f b n k)
    blk_ext [iblk, V, idx t]
  dy b k n := by
    refine Eq.trans ?_ (H.dy b k n)
    blk_ext [iblk, idx t]
  sy b k j := by
    refine Eq.trans ?_ (H.sy b k j)
    blk_ext [iblk, V, idx t]
  dh b k n := by
    refine Eq.trans ?_ (H.dh b k n)
    blk_ext [iblk, idx t]
  sh b k j := by
    refine Eq.trans ?_ (H.sh b k j)
    blk_ext [iblk, V, idx t]
  mod b k := by
    refine Eq.trans ?_ (H.mod b k)
    blk_ext [iblk, V, idx t]

/-- The first result array. -/
theorem arr8 (H : At m I c) : (dats m 0 c).arrAt 8 cfg0.N = Results.dx I := by
  refine (dats m 0 c).arrAt_eq_of_covers 8 _ (by decide +kernel) fun t hf y => ?_
  blk_simp
  rw [after0_8]
  obtain ⟨b, n, k, rfl⟩ : ∃ b n k, y = (ix3 b n k : S112x1024x768.Idx) := ⟨_, _, _, ValueIdx.eq_ix3 y⟩
  refine (RefValue.out8 (holds H t) b n k).trans ?_
  refine Eq.trans (b := Results.dx I (ix3 b n k)) rfl ?_
  blk_ext [idx t]

/-- The second result array. -/
theorem arr9 (H : At m I c) : (dats m 0 c).arrAt 9 cfg0.N = Results.dmod I := by
  refine (dats m 0 c).arrAt_eq_of_covers 9 _ (by decide +kernel) fun t hf y => ?_
  blk_simp
  rw [after0_9]
  obtain ⟨q, b, k, rfl⟩ : ∃ q b k, y = (ix3 q b k : S3x112x768.Idx) := ⟨_, _, _, ValueIdx.eq_ix3 y⟩
  refine (RefValue.out9 (holds H t) q b k).trans ?_
  refine Eq.trans (b := Results.dmod I (ix3 q b k)) rfl ?_
  blk_ext [idx t]

/-- The third result array. -/
theorem arr10 (H : At m I c) : (dats m 0 c).arrAt 10 cfg0.N = Results.part I := by
  refine (dats m 0 c).arrAt_eq_of_covers 10 _ (by decide +kernel) fun t hf y => ?_
  blk_simp
  rw [after0_10]
  obtain ⟨b, q, j, k, rfl⟩ : ∃ b q j k, y = (ix4 b q j k : S112x3x8x768.Idx) := ⟨_, _, _, _, ValueIdx.eq_ix4 y⟩
  refine (RefValue.out10 (holds H t) b q j k).trans ?_
  refine Eq.trans (b := Results.part I (ix4 b q j k)) rfl ?_
  blk_ext [idx t]

/-- The reference's run on arguments that hold real arrays: the three results are the formulas' arrays, the arguments unchanged. -/
theorem run (ρ : Dev nD → PrngReg) (I : Dev nD → Inputs) (H : ∀ c, At m (I c) c) :
    θ_run defs (onTc (τ := τ) (main (F := Ideal))) ⟨m, fun _ => 0, ρ⟩ fun r => ∀ c : Dev nD,
      r.2.mem ((c : Thread nD τ).loc main_v3_0) = Results.dx (I c)
      ∧ r.2.mem ((c : Thread nD τ).loc main_v3_1) = Results.dmod (I c)
      ∧ r.2.mem ((c : Thread nD τ).loc main_v3_2) = Results.part (I c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (arr8 (H c)), (h c).2.1.trans (arr9 (H c)), (h c).2.2.1.trans (arr10 (H c)), (h c).2.2.2⟩)
    (Value.run_blocks m ρ)

end Cert.RefArrays

end
-- ==== Proof.lean ====
module

public import proofs.«01_k».proof.Defs
public import proofs.«01_k».proof.Proof.KernelFrame
public import proofs.«01_k».proof.Proof.KernelArrays
public import proofs.«01_k».proof.Proof.RefArrays
public import Idealize.ShloMosaic.Adequacy
public import Idealize.ShloMosaic.Init

@[expose] public section

noncomputable section

namespace Cert.Proof

open Idealize.ShloMosaic Idealize.SL.Sem

/-- The kernel's constant `1 / 768`, rounded, is replaced by the number that it stands for. -/
theorem preserves : Cert.preserves_Kernel_KernelIdeal :=
  IdealRules.named_const.statement Cert.KernelIdeal.κ "inv_d" .f32 0x3AAAAAAB#32 _ rfl

/-- On finite arguments the kernel and the reference return the same three arrays, those of the formulas over the real numbers. -/
theorem algebraic : Cert.algebraic_KernelIdeal_ReferenceIdeal_pre_finite (hKernelIdeal := Cert.KernelIdeal.Gen.facts)
    (hReferenceIdeal := Cert.ReferenceIdeal.Gen.facts) (hPre_finite := Cert.Given.facts) := by
  intro m g m' g' hpre hargs
  letI := Cert.Given.facts
  have hI : ∀ c, ∃ I, Cert.KernelArrays.At m I c := fun c => by
    obtain ⟨h0, h1, h2, h3, h4, h5, h6, h7⟩ := hpre c
    exact Cert.Given.exists_holds _ _ _ _ _ _ _ _ h0 h1 h2 h3 h4 h5 h6 h7
  choose I hI using hI
  have hI' : ∀ c, Cert.RefArrays.At m' (I c) c := fun c => by
    obtain ⟨e0, e1, e2, e3, e4, e5, e6, e7⟩ := hargs c
    have h := hI c
    unfold Cert.KernelArrays.At at h
    unfold Cert.RefArrays.At
    rw [e0, e1, e2, e3, e4, e5, e6, e7]
    exact h
  refine ⟨fun c => Cert.Results.dx (I c), fun c => Cert.Results.dmod (I c), fun c => Cert.Results.part (I c), ?_, ?_⟩
  · exact (θ_run Cert.KernelIdeal.defs _ _).mono (fun r h c => ⟨(h.1 c).1, (h.1 c).2.1, (h.1 c).2.2, h.2 c⟩)
      (θ_run_and (Cert.KernelArrays.run g I hI) (Cert.KernelIdeal.Gen.unchanged m g))
  · exact Cert.RefArrays.run g' I hI'

/-- Everything claimed. -/
theorem claim : Cert.Claim :=
  ⟨Cert.Kernel.Gen.facts, Cert.KernelIdeal.Gen.facts, Cert.ReferenceIdeal.Gen.facts, Cert.Given.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, preserves, algebraic⟩

end Cert.Proof

end
